-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S1 : Shape := ⟨1, ![1]⟩
abbrev S1x1 : Shape := ⟨2, ![1, 1]⟩
abbrev S2x512x1024 : Shape := ⟨3, ![2, 512, 1024]⟩
abbrev S2 : Shape := ⟨1, ![2]⟩
abbrev S7x512x4096 : Shape := ⟨3, ![7, 512, 4096]⟩
abbrev S27 : Shape := ⟨1, ![27]⟩
abbrev S_ : Shape := ⟨0, ![]⟩
abbrev S128x4096 : Shape := ⟨2, ![128, 4096]⟩
abbrev S1x128x4096 : Shape := ⟨3, ![1, 128, 4096]⟩
abbrev S1x512x1024 : Shape := ⟨3, ![1, 512, 1024]⟩
abbrev S512x1024 : Shape := ⟨2, ![512, 1024]⟩
abbrev S1x512x4096 : Shape := ⟨3, ![1, 512, 4096]⟩
abbrev S1x192x4096 : Shape := ⟨3, ![1, 192, 4096]⟩
abbrev S192x4096 : Shape := ⟨2, ![192, 4096]⟩
abbrev S192x1024 : Shape := ⟨2, ![192, 1024]⟩
abbrev S1x192x1024 : Shape := ⟨3, ![1, 192, 1024]⟩
abbrev S128x1024 : Shape := ⟨2, ![128, 1024]⟩
abbrev S1x128x1024 : Shape := ⟨3, ![1, 128, 1024]⟩

abbrev nBuf : Space → Nat
  | .hbm => 7
  | .vmem => 6
  | .smem => 1
  | _ => 0

abbrev bufTy : (tb : Table) → Fin (tcTables nBuf tb) → BufTy
  | .hbm, ⟨0, _⟩ => ⟨S512x4096, .f32⟩
  | .hbm, ⟨1, _⟩ => ⟨S4096x1024, .f32⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S1x1, .f32⟩
  | .hbm, ⟨6, _⟩ => ⟨S4096x1024, .f32⟩
  | .local _ .vmem, ⟨0, _⟩ => ⟨S512x4096, .f32⟩
  | .local _ .vmem, ⟨1, _⟩ => ⟨S512x4096, .fp8e5m2⟩
  | .local _ .vmem, ⟨2, _⟩ => ⟨S4096x1024, .fp8e5m2⟩
  | .local _ .vmem, ⟨3, _⟩ => ⟨S2x512x1024, .f32⟩
  | .local _ .vmem, ⟨4, _⟩ => ⟨S7x512x4096, .fp8e5m2⟩
  | .local _ .vmem, ⟨5, _⟩ => ⟨S2x512x1024, .f32⟩
  | .local _ .smem, ⟨0, _⟩ => ⟨S1x1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  (ofTc nBuf bufTy 1 60 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch4 : Ref sig .tc := ⟨.vmem, 4, rfl⟩
abbrev cc0_scratch7 : Ref sig .tc := ⟨.vmem, 5, rfl⟩
abbrev cc0_stg1_0 : Ref sig .tc := ⟨.smem, 0, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.xori v3 c1_i32_0
  let v6 : BitVec 32 := Scalar.ori v4 v5
  let c1_i32_14 : BitVec 32 := 1#32
  let v25 : BitVec 32 := Scalar.muli v6 c1_i32_14
  let v26 : BitVec 32 := Scalar.addi c0_i32 v25
  v26.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c3_i32_1 : BitVec 32 := 3#32
  let v7 : BitVec 32 := Scalar.xori v3 c3_i32_1
  let v8 : BitVec 32 := Scalar.ori v4 v7
  let c1_i32_16 : BitVec 32 := 1#32
  let v27 : BitVec 32 := Scalar.muli v8 c1_i32_16
  let v28 : BitVec 32 := Scalar.addi c0_i32_17 v27
  v28.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v9 : BitVec 32 := Scalar.xori v2 c4_i32_2
  let c1_i32_19 : BitVec 32 := 1#32
  let v29 : BitVec 32 := Scalar.muli v9 c1_i32_19
  let v30 : BitVec 32 := Scalar.addi c0_i32_20 v29
  v30.toNat
def k0_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.xori v3 c1_i32_0
  let v6 : BitVec 32 := Scalar.ori v4 v5
  let c1_i32_28 : BitVec 32 := 1#32
  let v37 : BitVec 32 := Scalar.muli v6 c1_i32_28
  let v38 : BitVec 32 := Scalar.addi c0_i32_29 v37
  v38.toNat
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c3_i32_1 : BitVec 32 := 3#32
  let v7 : BitVec 32 := Scalar.xori v3 c3_i32_1
  let v8 : BitVec 32 := Scalar.ori v4 v7
  let c1_i32_37 : BitVec 32 := 1#32
  let v46 : BitVec 32 := Scalar.muli v8 c1_i32_37
  let v47 : BitVec 32 := Scalar.addi c0_i32_38 v46
  v47.toNat
def k0_dev6 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v9 : BitVec 32 := Scalar.xori v2 c4_i32_2
  let c1_i32_46 : BitVec 32 := 1#32
  let v55 : BitVec 32 := Scalar.muli v9 c1_i32_46
  let v56 : BitVec 32 := Scalar.addi c0_i32_47 v55
  v56.toNat
def k0_dev7 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.xori v3 c1_i32_0
  let v6 : BitVec 32 := Scalar.ori v4 v5
  let c1_i32_58 : BitVec 32 := 1#32
  let v70 : BitVec 32 := Scalar.muli v6 c1_i32_58
  let v71 : BitVec 32 := Scalar.addi c0_i32_59 v70
  v71.toNat
def k0_dev8 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c3_i32_1 : BitVec 32 := 3#32
  let v7 : BitVec 32 := Scalar.xori v3 c3_i32_1
  let v8 : BitVec 32 := Scalar.ori v4 v7
  let c1_i32_65 : BitVec 32 := 1#32
  let v79 : BitVec 32 := Scalar.muli v8 c1_i32_65
  let v80 : BitVec 32 := Scalar.addi c0_i32_66 v79
  v80.toNat
def k0_dev9 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v9 : BitVec 32 := Scalar.xori v2 c4_i32_2
  let c1_i32_73 : BitVec 32 := 1#32
  let v88 : BitVec 32 := Scalar.muli v9 c1_i32_73
  let v89 : BitVec 32 := Scalar.addi c0_i32_74 v88
  v89.toNat
def k0_dev10 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.xori v3 c1_i32_0
  let v6 : BitVec 32 := Scalar.ori v4 v5
  let c1_i32_85 : BitVec 32 := 1#32
  let v103 : BitVec 32 := Scalar.muli v6 c1_i32_85
  let v104 : BitVec 32 := Scalar.addi c0_i32_86 v103
  v104.toNat
def k0_dev11 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c3_i32_1 : BitVec 32 := 3#32
  let v7 : BitVec 32 := Scalar.xori v3 c3_i32_1
  let v8 : BitVec 32 := Scalar.ori v4 v7
  let c1_i32_92 : BitVec 32 := 1#32
  let v112 : BitVec 32 := Scalar.muli v8 c1_i32_92
  let v113 : BitVec 32 := Scalar.addi c0_i32_93 v112
  v113.toNat
def k0_dev12 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v9 : BitVec 32 := Scalar.xori v2 c4_i32_2
  let c1_i32_100 : BitVec 32 := 1#32
  let v121 : BitVec 32 := Scalar.muli v9 c1_i32_100
  let v122 : BitVec 32 := Scalar.addi c0_i32_101 v121
  v122.toNat
def k0_dev13 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.xori v3 c1_i32_0
  let v6 : BitVec 32 := Scalar.ori v4 v5
  let c1_i32_112 : BitVec 32 := 1#32
  let v136 : BitVec 32 := Scalar.muli v6 c1_i32_112
  let v137 : BitVec 32 := Scalar.addi c0_i32_113 v136
  v137.toNat
def k0_dev14 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c3_i32_1 : BitVec 32 := 3#32
  let v7 : BitVec 32 := Scalar.xori v3 c3_i32_1
  let v8 : BitVec 32 := Scalar.ori v4 v7
  let c1_i32_119 : BitVec 32 := 1#32
  let v145 : BitVec 32 := Scalar.muli v8 c1_i32_119
  let v146 : BitVec 32 := Scalar.addi c0_i32_120 v145
  v146.toNat
def k0_dev15 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v9 : BitVec 32 := Scalar.xori v2 c4_i32_2
  let c1_i32_127 : BitVec 32 := 1#32
  let v154 : BitVec 32 := Scalar.muli v9 c1_i32_127
  let v155 : BitVec 32 := Scalar.addi c0_i32_128 v154
  v155.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_263 : BitVec 32 := 512#32
  let v300 : BitVec 32 := Scalar.muli v2 c512_i32_263
  let c0_i32_266 : BitVec 32 := 0#32
  ![v300.toNat, 0]
def k0_dev16 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.xori v3 c1_i32_0
  let v6 : BitVec 32 := Scalar.ori v4 v5
  let c1_i32_281 : BitVec 32 := 1#32
  let v313 : BitVec 32 := Scalar.muli v6 c1_i32_281
  let v314 : BitVec 32 := Scalar.addi c0_i32_282 v313
  v314.toNat
def k0_dev17 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c3_i32_1 : BitVec 32 := 3#32
  let v7 : BitVec 32 := Scalar.xori v3 c3_i32_1
  let v8 : BitVec 32 := Scalar.ori v4 v7
  let c1_i32_299 : BitVec 32 := 1#32
  let v330 : BitVec 32 := Scalar.muli v8 c1_i32_299
  let v331 : BitVec 32 := Scalar.addi c0_i32_300 v330
  v331.toNat
def k0_dev18 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v9 : BitVec 32 := Scalar.xori v2 c4_i32_2
  let c1_i32_317 : BitVec 32 := 1#32
  let v347 : BitVec 32 := Scalar.muli v9 c1_i32_317
  let v348 : BitVec 32 := Scalar.addi c0_i32_318 v347
  v348.toNat
def k0_dev19 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.xori v3 c1_i32_0
  let v6 : BitVec 32 := Scalar.ori v4 v5
  let c1_i32_335 : BitVec 32 := 1#32
  let v364 : BitVec 32 := Scalar.muli v6 c1_i32_335
  let v365 : BitVec 32 := Scalar.addi c0_i32_336 v364
  v365.toNat
def k0_dev20 (d0 : Dev nD) : Nat :=
  let c0_i32_354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c3_i32_1 : BitVec 32 := 3#32
  let v7 : BitVec 32 := Scalar.xori v3 c3_i32_1
  let v8 : BitVec 32 := Scalar.ori v4 v7
  let c1_i32_353 : BitVec 32 := 1#32
  let v381 : BitVec 32 := Scalar.muli v8 c1_i32_353
  let v382 : BitVec 32 := Scalar.addi c0_i32_354 v381
  v382.toNat
def k0_dev21 (d0 : Dev nD) : Nat :=
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v9 : BitVec 32 := Scalar.xori v2 c4_i32_2
  let c1_i32_371 : BitVec 32 := 1#32
  let v398 : BitVec 32 := Scalar.muli v9 c1_i32_371
  let v399 : BitVec 32 := Scalar.addi c0_i32_372 v398
  v399.toNat
def k0_dev22 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.xori v3 c1_i32_0
  let v6 : BitVec 32 := Scalar.ori v4 v5
  let c1_i32_389 : BitVec 32 := 1#32
  let v415 : BitVec 32 := Scalar.muli v6 c1_i32_389
  let v416 : BitVec 32 := Scalar.addi c0_i32_390 v415
  v416.toNat
def k0_dev23 (d0 : Dev nD) : Nat :=
  let c0_i32_408 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c3_i32_1 : BitVec 32 := 3#32
  let v7 : BitVec 32 := Scalar.xori v3 c3_i32_1
  let v8 : BitVec 32 := Scalar.ori v4 v7
  let c1_i32_407 : BitVec 32 := 1#32
  let v432 : BitVec 32 := Scalar.muli v8 c1_i32_407
  let v433 : BitVec 32 := Scalar.addi c0_i32_408 v432
  v433.toNat
def k0_dev24 (d0 : Dev nD) : Nat :=
  let c0_i32_426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v9 : BitVec 32 := Scalar.xori v2 c4_i32_2
  let c1_i32_425 : BitVec 32 := 1#32
  let v449 : BitVec 32 := Scalar.muli v9 c1_i32_425
  let v450 : BitVec 32 := Scalar.addi c0_i32_426 v449
  v450.toNat
def k0_dev25 (d0 : Dev nD) : Nat :=
  let c0_i32_444 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.xori v3 c1_i32_0
  let v6 : BitVec 32 := Scalar.ori v4 v5
  let c1_i32_443 : BitVec 32 := 1#32
  let v466 : BitVec 32 := Scalar.muli v6 c1_i32_443
  let v467 : BitVec 32 := Scalar.addi c0_i32_444 v466
  v467.toNat
def k0_dev26 (d0 : Dev nD) : Nat :=
  let c0_i32_462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c3_i32_1 : BitVec 32 := 3#32
  let v7 : BitVec 32 := Scalar.xori v3 c3_i32_1
  let v8 : BitVec 32 := Scalar.ori v4 v7
  let c1_i32_461 : BitVec 32 := 1#32
  let v483 : BitVec 32 := Scalar.muli v8 c1_i32_461
  let v484 : BitVec 32 := Scalar.addi c0_i32_462 v483
  v484.toNat
def k0_dev27 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v9 : BitVec 32 := Scalar.xori v2 c4_i32_2
  let c1_i32_479 : BitVec 32 := 1#32
  let v500 : BitVec 32 := Scalar.muli v9 c1_i32_479
  let v501 : BitVec 32 := Scalar.addi c0_i32_480 v500
  v501.toNat
def k0_off2 (d0 : Dev nD) (c1_i32_0 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let v5 : BitVec 32 := Scalar.xori v3 c1_i32_0
  let v6 : BitVec 32 := Scalar.ori v4 v5
  let c512_i32_494 : BitVec 32 := 512#32
  let v519 : BitVec 32 := Scalar.muli v6 c512_i32_494
  let c0_i32_497 : BitVec 32 := 0#32
  ![v519.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v9 : BitVec 32 := Scalar.xori v2 c4_i32_2
  let c512_i32_533 : BitVec 32 := 512#32
  let v559 : BitVec 32 := Scalar.muli v9 c512_i32_533
  let c0_i32_536 : BitVec 32 := 0#32
  ![v559.toNat, 0]
def k0_dev28 (d0 : Dev nD) : Nat :=
  let c0_i32_563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.xori v3 c1_i32_0
  let v6 : BitVec 32 := Scalar.ori v4 v5
  let c1_i32_562 : BitVec 32 := 1#32
  let v581 : BitVec 32 := Scalar.muli v6 c1_i32_562
  let v582 : BitVec 32 := Scalar.addi c0_i32_563 v581
  v582.toNat
def k0_dev29 (d0 : Dev nD) : Nat :=
  let c0_i32_592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c3_i32_1 : BitVec 32 := 3#32
  let v7 : BitVec 32 := Scalar.xori v3 c3_i32_1
  let v8 : BitVec 32 := Scalar.ori v4 v7
  let c1_i32_591 : BitVec 32 := 1#32
  let v607 : BitVec 32 := Scalar.muli v8 c1_i32_591
  let v608 : BitVec 32 := Scalar.addi c0_i32_592 v607
  v608.toNat
def k0_dev30 (d0 : Dev nD) : Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v9 : BitVec 32 := Scalar.xori v2 c4_i32_2
  let c1_i32_609 : BitVec 32 := 1#32
  let v625 : BitVec 32 := Scalar.muli v9 c1_i32_609
  let v626 : BitVec 32 := Scalar.addi c0_i32_610 v625
  v626.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.xori v3 c1_i32_0
  let v6 : BitVec 32 := Scalar.ori v4 v5
  let c4_i32_3 : BitVec 32 := 4#32
  let v10 : BitVec 32 := Scalar.andi v6 c4_i32_3
  let c3_i32_4 : BitVec 32 := 3#32
  let v11 : BitVec 32 := Scalar.andi v6 c3_i32_4
  let c3_i32_5 : BitVec 32 := 3#32
  let v12 : BitVec 32 := Scalar.xori v11 c3_i32_5
  let v13 : BitVec 32 := Scalar.ori v10 v12
  let c512_i32_698 : BitVec 32 := 512#32
  let v705 : BitVec 32 := Scalar.muli v13 c512_i32_698
  let c0_i32_701 : BitVec 32 := 0#32
  ![v705.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c3_i32_1 : BitVec 32 := 3#32
  let v7 : BitVec 32 := Scalar.xori v3 c3_i32_1
  let v8 : BitVec 32 := Scalar.ori v4 v7
  let c4_i32_6 : BitVec 32 := 4#32
  let v14 : BitVec 32 := Scalar.xori v8 c4_i32_6
  let c512_i32_717 : BitVec 32 := 512#32
  let v725 : BitVec 32 := Scalar.muli v14 c512_i32_717
  let c0_i32_720 : BitVec 32 := 0#32
  ![v725.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v9 : BitVec 32 := Scalar.xori v2 c4_i32_2
  let c4_i32_7 : BitVec 32 := 4#32
  let v15 : BitVec 32 := Scalar.andi v9 c4_i32_7
  let c3_i32_8 : BitVec 32 := 3#32
  let v16 : BitVec 32 := Scalar.andi v9 c3_i32_8
  let c1_i32_9 : BitVec 32 := 1#32
  let v17 : BitVec 32 := Scalar.xori v16 c1_i32_9
  let v18 : BitVec 32 := Scalar.ori v15 v17
  let c512_i32_736 : BitVec 32 := 512#32
  let v745 : BitVec 32 := Scalar.muli v18 c512_i32_736
  let c0_i32_739 : BitVec 32 := 0#32
  ![v745.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v19 : BitVec 32 := Scalar.andi v2 c4_i32_10
  let c4_i32_11 : BitVec 32 := 4#32
  let v20 : BitVec 32 := Scalar.xori v19 c4_i32_11
  let c3_i32_12 : BitVec 32 := 3#32
  let v21 : BitVec 32 := Scalar.andi v2 c3_i32_12
  let c2_i32 : BitVec 32 := 2#32
  let v22 : BitVec 32 := Scalar.xori v21 c2_i32
  let v23 : BitVec 32 := Scalar.ori v20 v22
  let c512_i32_802 : BitVec 32 := 512#32
  let v807 : BitVec 32 := Scalar.muli v23 c512_i32_802
  let c0_i32_805 : BitVec 32 := 0#32
  ![v807.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Common.lean ====
/-
The protocol of the kernel, written down before any of its steps: the mesh, the memrefs and cells it names,
what every buffer holds in the end, the transfers' table, the schedule of duties, what is owed, the levels.

Devices are numbered 0..7 and every transfer goes to the device whose number is the own one XOR 1, 3 or 4
(directions 0, 1, 2). `commF c (j, r, k)` is what slot `j` of device `c`'s communication buffer holds once it
is filled: row `r` of the narrowed `x` of device `c XOR mask j`.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.RegionTalk
public import Idealize.ShloMosaic.Lib.Pipeline.Value
public import Idealize.ShloMosaic.Lib.Rounds
public import Idealize.ShloMosaic.Lib.Transfers
public import Idealize.ShloMosaic.Lib.ValueLayout
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra: the pipeline library's copy, the protocol's, the local copies' counters -/

/-- The protocol's own rounds: three duties a round at most (a barrier cell is raised from three sides). -/
abbrev UB : Type := Rounds.URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  (Emb.inl : Emb UB (UB × Counters)).trans embR
abbrev EC : UEmb Counters (MT nD τ sig Unit (Elt F) ℕ UU ℕ) := countersEmb

abbrev 𝒱₀ : Variants := Variants.none

/-! ## The mesh -/

/-- The device whose number is `c`'s XOR `k`. -/
def xr (k : Fin 8) (c : Dev nD) : Dev nD := ⟨(c.val ^^^ k.val) % 8, Nat.mod_lt _ (by decide)⟩

theorem xr_xr (k : Fin 8) (c : Dev nD) : xr k (xr k c) = c := by revert k c; decide
theorem xr_comp (a b : Fin 8) (c : Dev nD) : xr a (xr b c) = xr (xr a b) c := by revert a b c; decide

/-- The neighbour in direction `i`: XOR 1, 3, 4. -/
def pm : Fin 3 → Fin 8 := ![1, 3, 4]
/-- What slot `j` of the communication buffer is filled from: the device XOR this. -/
def mask : Fin 7 → Fin 8 := ![1, 3, 4, 2, 7, 5, 6]

/-! ## The transfers -/

/-- The direction of transfer `t`. -/
def dir (t : Fin 27) : Fin 3 := if t.val < 12 then ⟨(t.val / 4) % 3, by omega⟩ else if t.val < 24 then ⟨((t.val - 12) / 4) % 3, by omega⟩ else ⟨(t.val - 24) % 3, by omega⟩
/-- Its first row and its number of rows. -/
def lo (t : Fin 27) : ℕ := if t.val < 24 then 128 * (t.val % 4) else 192 * (t.val - 24)
def nr (t : Fin 27) : ℕ := if t.val = 24 ∨ t.val = 25 then 192 else 128
/-- The slot it fills on the target. -/
def dj (t : Fin 27) : Fin 7 := if t.val < 12 then ⟨(dir t).val, by have := (dir t).isLt; omega⟩ else if t.val < 24 then ⟨3 + (dir t).val, by have := (dir t).isLt; omega⟩ else 6
/-- The slot it reads on the issuer (transfers 12 and later; the first twelve read the own narrowed `x`). -/
def sj (t : Fin 27) : Fin 7 := if t.val < 24 then (![1, 2, 0] : Fin 3 → Fin 7) (dir t) else (![4, 5, 3] : Fin 3 → Fin 7) (dir t)
/-- Its place in the order of issue. -/
def pos (t : Fin 27) : ℕ := if t.val < 12 then 3 * (t.val % 4) + (dir t).val else if t.val < 24 then 12 + 3 * (t.val % 4) + (dir t).val else t.val
/-- Its place in the order in which a device waits for what it receives. -/
def wpos (t : Fin 27) : ℕ :=
  (![2, 5, 8, 11, 0, 3, 6, 9, 1, 4, 7, 10, 17, 18, 19, 16, 12, 13, 20, 21, 22, 14, 15, 23, 24, 25, 26] : Fin 27 → ℕ) t
/-- Where transfer `t` of device `c` goes. -/
def peer (t : Fin 27) (c : Dev nD) : Dev nD := xr (pm (dir t)) c

theorem peer_peer (t : Fin 27) (c : Dev nD) : peer t (peer t c) = c := xr_xr _ _

theorem pos_inj (t t' : Fin 27) (h : pos t = pos t') : t = t' := by revert t t'; decide
theorem wpos_inj (t t' : Fin 27) (h : wpos t = wpos t') : t = t' := by revert t t'; decide
theorem wpos_lt (t : Fin 27) : wpos t < 27 := by revert t; decide
theorem pos_lt (t : Fin 27) : pos t < 27 := by revert t; decide

/-! ## Rows of the communication buffer, cut where some transfer begins or ends -/

abbrev Atom : Type := Fin 7 × Fin 5
def cutAt : Fin 6 → ℕ := ![0, 128, 192, 256, 384, 512]
def cut (r : ℕ) : Fin 5 := if r < 128 then 0 else if r < 192 then 1 else if r < 256 then 2 else if r < 384 then 3 else 4

/-- The elements whose slot and row interval are in `A`. -/
def inA (A : Finset Atom) : Finset S7x512x4096.Idx := Finset.univ.filter fun i => ((i 0, cut (i 1).val) : Atom) ∈ A

theorem mem_inA (A : Finset Atom) (i : S7x512x4096.Idx) : i ∈ inA A ↔ ((i 0, cut (i 1).val) : Atom) ∈ A := by simp [inA]
theorem inA_union (A B : Finset Atom) : inA (A ∪ B) = inA A ∪ inA B := by ext i; simp only [mem_inA, Finset.mem_union]
theorem inA_sdiff (A B : Finset Atom) : inA (A \ B) = inA A \ inA B := by ext i; simp only [mem_inA, Finset.mem_sdiff]
theorem inA_disjoint {A B : Finset Atom} (h : Disjoint A B) : Disjoint (inA A) (inA B) := by
  rw [Finset.disjoint_left] at h ⊢; intro i hi hj; exact h ((mem_inA _ _).1 hi) ((mem_inA _ _).1 hj)
theorem inA_subset {A B : Finset Atom} (h : A ⊆ B) : inA A ⊆ inA B := fun i hi => (mem_inA _ _).2 (h ((mem_inA _ _).1 hi))
theorem inA_univ : inA Finset.univ = Finset.univ := by ext i; simp [mem_inA]
theorem inA_empty : inA ∅ = ∅ := by ext i; simp [mem_inA]

/-- Rows `l .. l + n` of slot `j`, as intervals. -/
def ats (j : Fin 7) (l n : ℕ) : Finset Atom := Finset.univ.filter fun a => a.1 = j ∧ l ≤ cutAt a.2.castSucc ∧ cutAt a.2.succ ≤ l + n

/-- Whether a row number is one of the cuts. -/
def IsCut (l : ℕ) : Prop := l = 0 ∨ l = 128 ∨ l = 192 ∨ l = 256 ∨ l = 384 ∨ l = 512
instance (l : ℕ) : Decidable (IsCut l) := by unfold IsCut; infer_instance

theorem mem_inA_ats (j : Fin 7) (l n : ℕ) (hl : IsCut l) (hn : IsCut (l + n)) (i : S7x512x4096.Idx) :
    i ∈ inA (ats j l n) ↔ i 0 = j ∧ l ≤ (i 1).val ∧ (i 1).val < l + n := by
  rw [mem_inA, ats, Finset.mem_filter]
  have hr : (i 1).val < 512 := (i 1).isLt
  generalize (i 1).val = r at *
  have key : (l ≤ cutAt (cut r).castSucc ∧ cutAt (cut r).succ ≤ l + n) ↔ (l ≤ r ∧ r < l + n) := by
    unfold cut IsCut at *
    generalize l + n = e at *
    split_ifs <;> simp [cutAt] <;> omega
  simp only [Finset.mem_univ, true_and]
  constructor
  · rintro ⟨h, h'⟩; exact ⟨h, key.1 h'⟩
  · rintro ⟨h, h'⟩; exact ⟨h, key.2 h'⟩

theorem cut_lo (t : Fin 27) : IsCut (lo t) := by revert t; decide
theorem cut_hi (t : Fin 27) : IsCut (lo t + nr t) := by revert t; decide

/-- What transfer `t` fills on its target, and what a later one reads on its issuer. -/
def dstA (t : Fin 27) : Finset Atom := ats (dj t) (lo t) (nr t)
def srcA (t : Fin 27) : Finset Atom := ats (sj t) (lo t) (nr t)

theorem dstA_disjoint (t t' : Fin 27) (h : t ≠ t') : Disjoint (dstA t) (dstA t') := by revert t t'; decide

/-- Rows `l .. l + n` of a 512-row block. -/
def rowsX (l n : ℕ) : Finset S512x4096.Idx := Finset.univ.filter fun i => l ≤ (i 0).val ∧ (i 0).val < l + n
/-- Rows `l .. l + n` of a 4096-row array (the second operand, its narrowed copy, the result). -/
def rowsW (l n : ℕ) : Finset S4096x1024.Idx := Finset.univ.filter fun i => l ≤ (i 0).val ∧ (i 0).val < l + n
/-- Rows `l .. l + n` of slot `b` of a two-slot buffer. -/
def slotB (b : ℕ) (l n : ℕ) : Finset S2x512x1024.Idx := Finset.univ.filter fun i => (i 0).val = b ∧ l ≤ (i 1).val ∧ (i 1).val < l + n

/-! ## Memrefs -/

abbrev xM : Memref sig .tc .vmem S512x4096 .f32 := Memref.whole cc0_stg0_0
abbrev wM : Memref sig .tc .hbm S4096x1024 .f32 := Memref.whole main_arg1
abbrev sM : Memref sig .tc .smem S1x1 .f32 := Memref.whole cc0_stg1_0
abbrev oM : Memref sig .tc .hbm S4096x1024 .f32 := Memref.whole main_v3
abbrev x8M : Memref sig .tc .vmem S512x4096 .fp8e5m2 := Memref.whole cc0_scratch0
abbrev w8M : Memref sig .tc .vmem S4096x1024 .fp8e5m2 := Memref.whole cc0_scratch1
abbrev wbM : Memref sig .tc .vmem S2x512x1024 .f32 := Memref.whole cc0_scratch2
abbrev cmM : Memref sig .tc .vmem S7x512x4096 .fp8e5m2 := Memref.whole cc0_scratch4
abbrev acM : Memref sig .tc .vmem S2x512x1024 .f32 := Memref.whole cc0_scratch7

/-- `n` rows of 4096, and one slot of them. -/
abbrev Sr (n : ℕ) : Shape := ⟨2, ![n, 4096]⟩
abbrev S1r (n : ℕ) : Shape := ⟨3, ![1, n, 4096]⟩

/-- Rows `l .. l + n` of slot `j` of the communication buffer, as the transfers name them. -/
abbrev cmV (j l n : ℕ) (h : ∀ a, (![j, l, 0] : Fin 3 → ℕ) a + (S1r n).size a ≤ S7x512x4096.size a) (hs : (S1r n).Squeezes (Sr n)) :
    Memref sig .tc .vmem (Sr n) .fp8e5m2 :=
  (cmM.slice (Rect.unit (s := S7x512x4096) ![j, l, 0] (S1r n).size h) (fun _ => rfl)).squeeze (Sr n) hs
/-- Rows `l .. l + n` of the narrowed `x`. -/
abbrev x8V (l n : ℕ) (h : ∀ a, (![l, 0] : Fin 2 → ℕ) a + (Sr n).size a ≤ S512x4096.size a) : Memref sig .tc .vmem (Sr n) .fp8e5m2 :=
  x8M.slice (Rect.unit (s := S512x4096) ![l, 0] (Sr n).size h) (fun _ => rfl)

/-! ## Cells -/

abbrev barS : Sem sig := (SemArray.scalar (sig.barrier 0 rfl) : Sems sig S_).sem
/-- Semaphore number `t` of the send and of the receive array. -/
def sendS (t : Fin 27) : DmaSem sig := ⟨4 + t.val, by have := t.isLt; show 4 + t.val < 60; omega⟩
def recvS (t : Fin 27) : DmaSem sig := ⟨31 + t.val, by have := t.isLt; show 31 + t.val < 60; omega⟩

abbrev barCell (c : Dev nD) : GSem nD τ sig := ((c : Thread nD τ), .reg barS)
abbrev sendCell (t : Fin 27) (c : Dev nD) : GSem nD τ sig := ((c : Thread nD τ), .dma (sendS t))
abbrev recvCell (t : Fin 27) (c : Dev nD) : GSem nD τ sig := ((c : Thread nD τ), .dma (recvS t))

/-- What a semaphore is for. -/
inductive Kd where
  | bar | send (t : Fin 27) | recv (t : Fin 27) | other
deriving DecidableEq

def kd : SemLoc sig → Kd
  | .reg _ => .bar
  | .dma s => if h : s.val < 4 then .other else if h' : s.val < 31 then .send ⟨s.val - 4, by omega⟩ else if h'' : s.val < 58 then .recv ⟨s.val - 31, by omega⟩ else .other

theorem kd_bar : kd (.reg barS) = .bar := rfl
theorem kd_send (t : Fin 27) : kd (.dma (sendS t)) = .send t := by revert t; decide
theorem kd_recv (t : Fin 27) : kd (.dma (recvS t)) = .recv t := by revert t; decide

/-- The credit of a copy of `n` rows. -/
def N (t : Fin 27) : ℕ := RefSig.tileCredit (Sr (nr t)) .fp8e5m2

/-! ## Contents -/

variable (X : Dev nD → S512x4096.Idx → Elt F .f32) (Wt : Dev nD → S4096x1024.Idx → Elt F .f32) (sc : Dev nD → Elt F .f32)

/-- Device `c`'s narrowed `x`; its narrowed second operand. -/
def x8F (c : Dev nD) : S512x4096.Idx → Elt F .fp8e5m2 := truncf (F := F) (s := S512x4096) (φ := .f32) .fp8e5m2 (X c) bitsLt_fp8e5m2_f32
def w8F (c : Dev nD) : S4096x1024.Idx → Elt F .fp8e5m2 := truncf (F := F) (s := S4096x1024) (φ := .f32) .fp8e5m2 (Wt c) bitsLt_fp8e5m2_f32
/-- The communication buffer once filled. -/
def commF (c : Dev nD) : S7x512x4096.Idx → Elt F .fp8e5m2 := fun i => x8F X (xr (mask (i 0)) c) (ix2 (i 1) (i 2))

/-! ## The schedule -/

/-- The four shares of the narrowed `x`: one a direction, and one kept for the products. -/
def xsh : Fin 4 → PosShare TreeShare := ![fullShare.left.left, fullShare.left.right, fullShare.right.left, fullShare.right.right]
def dsh (t : Fin 27) : PosShare TreeShare := xsh ⟨(dir t).val, by have := (dir t).isLt; omega⟩

abbrev cmPt (c : Dev nD) (q : PosShare TreeShare) (A : Finset Atom) (f : S7x512x4096.Idx → Elt F .fp8e5m2) : sProp 𝕄 :=
  cmM.view.loc (c : Thread nD τ) ↦[inA A]{q} f
abbrev x8Pt (c : Dev nD) (q : PosShare TreeShare) (I : Finset S512x4096.Idx) (f : S512x4096.Idx → Elt F .fp8e5m2) : sProp 𝕄 :=
  x8M.view.loc (c : Thread nD τ) ↦[I]{q} f

/-- Where transfer `t` of device `c` lands, and that the target's receive cell is open. -/
def Dst (t : Fin 27) (c : Dev nD) : sProp 𝕄 :=
  iprop((∃ f, cmPt (peer t c) fullShare (dstA t) f) ∗ reached ER (recvCell t (peer t c)) 0)
/-- Paid to device `c`'s barrier cell from direction `i`: where `c`'s transfers in that direction land. -/
def barPay (c : Dev nD) (i : Fin 3) : sProp 𝕄 := bigSep (Finset.univ.filter fun t : Fin 27 => dir t = i) fun t => Dst t c
/-- Paid to a receive cell: the rows, at their contents. -/
def recvPay (t : Fin 27) (c : Dev nD) : sProp 𝕄 := cmPt c fullShare (dstA t) (commF X c)
/-- Paid to a send cell: the share of the source lent to the copy. -/
def sendPay (t : Fin 27) (c : Dev nD) : sProp 𝕄 :=
  if t.val < 12 then x8Pt c (dsh t) (rowsX (lo t) (nr t)) (x8F X c) else cmPt c fullShare.left (srcA t) (commF X c)

theorem N_pos (t : Fin 27) : 0 < N t := by revert t; decide

def duties (g : GSem nD τ sig) (r : ℕ) : Finset (Fin 3) :=
  if r = 0 ∧ g.1.2 = .tc then (match kd g.2 with | .bar => Finset.univ | .send _ => {0} | .recv _ => {0} | .other => ∅) else ∅
def amount (g : GSem nD τ sig) : ℕ := match kd g.2 with | .bar => 1 | .send t => N t | .recv t => N t | .other => 1
def payload (g : GSem nD τ sig) (d : Fin 3) : sProp 𝕄 :=
  match kd g.2 with | .bar => barPay g.1.1 d | .send t => sendPay X t g.1.1 | .recv t => recvPay X t g.1.1 | .other => iprop(emp)

def Rd : Rounds.Schedule (GSem nD τ sig) (Fin 3) 𝕄 where
  duties := duties
  unitless _ := False
  amount g _ _ := amount g
  payload g _ d := payload X g d
  amount_pos g _ _ _ := by
    unfold amount; split
    · exact Nat.one_pos
    · exact N_pos _
    · exact N_pos _
    · exact Nat.one_pos

instance Rd_payload_storable (g : GSem nD τ sig) (r : ℕ) (d : Fin 3) : BI.Storable (upEmb : UEmb _ 𝕄) ((Rd X).payload g r d) := by
  show BI.Storable upEmb (payload X g d)
  unfold payload barPay sendPay recvPay Dst
  (repeat' split) <;> infer_instance

theorem duties_bar (c : Dev nD) : (Rd X).duties (barCell c) 0 = Finset.univ := rfl
theorem duties_send (t : Fin 27) (c : Dev nD) : (Rd X).duties (sendCell t c) 0 = {0} := by
  show duties (sendCell t c) 0 = _; unfold duties; rw [if_pos ⟨rfl, rfl⟩]; dsimp only; rw [kd_send]
theorem duties_recv (t : Fin 27) (c : Dev nD) : (Rd X).duties (recvCell t c) 0 = {0} := by
  show duties (recvCell t c) 0 = _; unfold duties; rw [if_pos ⟨rfl, rfl⟩]; dsimp only; rw [kd_recv]
theorem duties_later (g : GSem nD τ sig) : ∀ r, 1 ≤ r → (Rd X).duties g r = ∅ :=
  fun r hr => by show duties g r = _; unfold duties; rw [if_neg (fun h => by omega)]

theorem amount_bar (c : Dev nD) (u : Fin 3) : (Rd X).amount (barCell c) 0 u = 1 := rfl
theorem amount_send (t : Fin 27) (c : Dev nD) (u : Fin 3) : (Rd X).amount (sendCell t c) 0 u = N t := by
  show amount _ = _; unfold amount; dsimp only; rw [kd_send]
theorem amount_recv (t : Fin 27) (c : Dev nD) (u : Fin 3) : (Rd X).amount (recvCell t c) 0 u = N t := by
  show amount _ = _; unfold amount; dsimp only; rw [kd_recv]

theorem expect_bar (c : Dev nD) : (Rd X).expect (barCell c) 0 = 3 := by
  unfold Schedule.expect Schedule.amountOf; rw [duties_bar]; rfl
theorem expect_send (t : Fin 27) (c : Dev nD) : (Rd X).expect (sendCell t c) 0 = N t := by
  unfold Schedule.expect Schedule.amountOf; rw [duties_send, Finset.sum_singleton, amount_send]
theorem expect_recv (t : Fin 27) (c : Dev nD) : (Rd X).expect (recvCell t c) 0 = N t := by
  unfold Schedule.expect Schedule.amountOf; rw [duties_recv, Finset.sum_singleton, amount_recv]

theorem payload_bar (c : Dev nD) (u : Fin 3) : (Rd X).payload (barCell c) 0 u = barPay c u := rfl
theorem payload_send (t : Fin 27) (c : Dev nD) (u : Fin 3) : (Rd X).payload (sendCell t c) 0 u = sendPay X t c := by
  show payload X _ u = _; unfold payload; dsimp only; rw [kd_send]
theorem payload_recv (t : Fin 27) (c : Dev nD) (u : Fin 3) : (Rd X).payload (recvCell t c) 0 u = recvPay X t c := by
  show payload X _ u = _; unfold payload; dsimp only; rw [kd_recv]

theorem rest_bar (c : Dev nD) : bigSep ((Rd X).duties (barCell c) 0 \ ∅) (fun u => (Rd X).payload (barCell c) 0 u) = bigSep Finset.univ fun i => barPay (F := F) c i := by
  rw [Finset.sdiff_empty, duties_bar]; rfl
theorem rest_send (t : Fin 27) (c : Dev nD) : bigSep ((Rd X).duties (sendCell t c) 0 \ ∅) (fun u => (Rd X).payload (sendCell t c) 0 u) = sendPay X t c := by
  rw [Finset.sdiff_empty, duties_send, bigSep_singleton, payload_send]
theorem rest_recv (t : Fin 27) (c : Dev nD) : bigSep ((Rd X).duties (recvCell t c) 0 \ ∅) (fun u => (Rd X).payload (recvCell t c) 0 u) = recvPay X t c := by
  rw [Finset.sdiff_empty, duties_recv, bigSep_singleton, payload_recv]

theorem close (κ : ℕ) (g : GSem nD τ sig) :
    iprop(cellInv ER (Rd X) κ g ∗ atPos ER g (0 + 1) ∅ 0) ⊢ (|={Set.univ}=> semVal g 0 : sProp 𝕄) :=
  Rounds.cell_close ER (Rd X) (Set.mem_univ κ) id (duties_later X g)

/-! ## What is owed, and the levels -/

/-- What device `c` still owes once its first `k` transfers are issued. -/
def debt (c : Dev nD) (k : ℕ) : CellTallies nD τ sig Unit :=
  ∑ t ∈ Finset.univ.filter (fun t : Fin 27 => k ≤ pos t), tallyAt (recvCell t (peer t c)) () (N t)

theorem debt_step (c : Dev nD) (t : Fin 27) (k : ℕ) (h : pos t = k) :
    debt c k = debt c (k + 1) + tallyAt (recvCell t (peer t c)) () (N t) := by
  unfold debt
  have : Finset.univ.filter (fun t : Fin 27 => k ≤ pos t) = insert t (Finset.univ.filter (fun t : Fin 27 => k + 1 ≤ pos t)) := by
    ext t'
    simp only [Finset.mem_filter, Finset.mem_univ, true_and, Finset.mem_insert]
    constructor
    · intro h'; by_cases e : t' = t
      · exact .inl e
      · refine .inr ?_
        have : pos t' ≠ k := fun h2 => e (pos_inj _ _ (h2.trans h.symm))
        omega
    · rintro (e | h'); · rw [e, h]
      omega
  rw [this, Finset.sum_insert (by simp [h]), add_comm]

theorem debt_end (c : Dev nD) : debt c 27 = 0 := by
  unfold debt; rw [Finset.filter_false_of_mem (fun t _ => by have := pos_lt t; omega), Finset.sum_empty]

def L (g : GSem nD τ sig) : Finset Unit := if g.1.2 = .tc then {()} else ∅
/-- The level of a semaphore: the barrier, then the three stages of transfers; every other at the bottom. -/
def lvl : SemLoc sig → ℕ := fun sm => match kd sm with | .bar => 1 | .recv t => if t.val < 12 then 2 else if t.val < 24 then 3 else 4 | _ => 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

/-- A wait below everything still owed. -/
theorem mayWait_debt (c : Dev nD) (k : ℕ) (sm : SemLoc sig) (h : ∀ t : Fin 27, k ≤ pos t → lvl sm < lvl (.dma (recvS t))) :
    (levAts L lv : sProp 𝕄) ⊢ MayWait (c : Thread nD τ) sm () (debt c k) := by
  have key : ∀ (g : GSem nD τ sig) (u : Unit), 0 < debt c k g u → ∃ t, k ≤ pos t ∧ g = recvCell t (peer t c) := by
    intro g u hg
    unfold debt at hg
    rw [Finset.sum_apply, Finsupp.finset_sum_apply] at hg
    obtain ⟨t, ht, hp⟩ := Finset.exists_ne_zero_of_sum_ne_zero hg.ne'
    refine ⟨t, (Finset.mem_filter.1 ht).2, ?_⟩
    by_contra e
    rw [tallyAt_apply, if_neg (fun h => e h.1)] at hp
    exact hp rfl
  refine MayOwe.of_cut (L := L) (lev := lv) (lvl sm) (fun p hp => ?_) (fun g u hg => ?_) (fun p hp => ?_) (fun g u hg => ?_)
  · rw [L_tc]; exact Finset.mem_singleton_self _
  · obtain ⟨t, _, e⟩ := key g u hg
    rw [e, L_tc]; exact Finset.mem_singleton_self _
  · rw [Finset.mem_singleton.mp hp]; exact le_refl _
  · obtain ⟨t, hk, e⟩ := key g u hg
    rw [e]; exact h t hk

end Cert.Ring

end
-- ==== Proof.Views.lean ====
/-
The views the kernel's copies, loads and stores go through: the elements each one covers and the element
each of its indices is.
-/
module

public import proofs.«01_k».proof.Proof.Common

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## Any view onto rows of a buffer -/

/-- A view written whole holds `g` on its elements when what is written is `g` read through it. -/
theorem write_eq_on {sp : Space} {s : Shape} {e : EltTy} (v : View sig .tc sp s e) (fd g : v.ty.Contents (Elt F)) (w : s.Idx → Elt F e)
    (h : ∀ x, w x = v.read (Elt F) g x) (i : v.ty.Idx) (hi : i ∈ v.set) : v.write (Elt F) fd w Finset.univ i = g i := by
  obtain ⟨x, rfl⟩ := View.exists_emb_of_mem_set v hi
  rw [View.write_emb_of_mem _ _ (Finset.mem_univ x), h x, View.read_apply, cast_cast, cast_eq]

/-! ## The semaphores -/

theorem sem_at {n b m k : ℕ} (h : b + (⟨1, ![m]⟩ : Shape).numel ≤ n) (hk : ∀ a, (![k] : Fin 1 → ℕ) a + S1.size a ≤ (⟨1, ![m]⟩ : Shape).size a)
    (hs : S1.Squeezes S_) :
    (((SemArray.consecutive (n := n) b ⟨1, ![m]⟩ h).slice (Rect.unit (s := ⟨1, ![m]⟩) ![k] S1.size hk)).squeeze S_ hs).sem.val = b + k := by
  show b + ((⟨1, ![m]⟩ : Shape).rowMajor _).val = b + k
  rw [Shape.rowMajor_val_one, Rect.emb_apply]
  congr 1
  generalize Shape.reshapeEquiv hs.numel_eq (fun i : Fin 0 => i.elim0) = y
  have h0 : (y 0).val < 1 := (y 0).isLt
  show k + 1 * (y 0).val = k
  omega

theorem sem_send (t : Fin 27) (k : ℕ) (e : t.val = k) (h : ∀ a, (![k] : Fin 1 → ℕ) a + S1.size a ≤ S27.size a) (hs : S1.Squeezes S_) :
    ((cc0_scratch5.slice (Rect.unit (s := S27) ![k] S1.size h)).squeeze S_ hs).sem = sendS t := by
  subst e; exact Fin.ext (sem_at _ h hs)
theorem sem_recv (t : Fin 27) (k : ℕ) (e : t.val = k) (h : ∀ a, (![k] : Fin 1 → ℕ) a + S1.size a ≤ S27.size a) (hs : S1.Squeezes S_) :
    ((cc0_scratch6.slice (Rect.unit (s := S27) ![k] S1.size h)).squeeze S_ hs).sem = recvS t := by
  subst e; exact Fin.ext (sem_at _ h hs)

/-- The two semaphores of the second operand's tiles, and of the result's copies. -/
def wS (b : Fin 2) : DmaSem sig := ⟨2 + b.val, by have := b.isLt; show 2 + b.val < 60; omega⟩
def oS (b : Fin 2) : DmaSem sig := ⟨58 + b.val, by have := b.isLt; show 58 + b.val < 60; omega⟩
theorem sem_w (b : Fin 2) (k : ℕ) (e : b.val = k) (h : ∀ a, (![k] : Fin 1 → ℕ) a + S1.size a ≤ S2.size a) (hs : S1.Squeezes S_) :
    ((cc0_scratch3.slice (Rect.unit (s := S2) ![k] S1.size h)).squeeze S_ hs).sem = wS b := by
  subst e; exact Fin.ext (sem_at _ h hs)
theorem sem_o (b : Fin 2) (k : ℕ) (e : b.val = k) (h : ∀ a, (![k] : Fin 1 → ℕ) a + S1.size a ≤ S2.size a) (hs : S1.Squeezes S_) :
    ((cc0_scratch8.slice (Rect.unit (s := S2) ![k] S1.size h)).squeeze S_ hs).sem = oS b := by
  subst e; exact Fin.ext (sem_at _ h hs)
theorem kd_w (b : Fin 2) : kd (.dma (wS b)) = .other := by revert b; decide
theorem kd_o (b : Fin 2) : kd (.dma (oS b)) = .other := by revert b; decide

/-! ## Rows of the narrowed `x`; rows of a slot of the communication buffer -/

theorem x8V_set (l n : ℕ) (h) : (x8V l n h).view.set = rowsX l n := by
  rw [show (x8V l n h).view.set = (Rect.unit (s := S512x4096) ![l, 0] (Sr n).size h).set from View.set_slice_whole cc0_scratch0 _]
  ext i
  rw [Rect.mem_set_unit, rowsX, Finset.mem_filter, Fin.forall_fin_two]
  have := (i 1).isLt
  simp only [Finset.mem_univ, true_and]
  constructor
  · rintro ⟨h, _⟩; exact h
  · intro h; exact ⟨h, Nat.zero_le _, by simpa using this⟩

theorem x8V_emb (l n : ℕ) (h) (x : (Sr n).Idx) (hx : l + (x 0).val < 512) :
    (x8V l n h).view.emb x = (ix2 (⟨l + (x 0).val, hx⟩ : Fin 512) (x 1 : Fin 4096) : S512x4096.Idx) := by
  funext a
  apply Fin.ext
  show _ + 1 * _ = _
  match a with
  | ⟨0, _⟩ => show l + 1 * (x 0).val = l + (x 0).val; omega
  | ⟨1, _⟩ => show 0 + 1 * (x 1).val = (x 1).val; omega

theorem cmV_set (j : Fin 7) (l n : ℕ) (hl : IsCut l) (hn : IsCut (l + n)) (h hs) : (cmV j.val l n h hs).view.set = inA (ats j l n) := by
  rw [show (cmV j.val l n h hs).view.set = ((View.whole cc0_scratch4).slice (Rect.unit (s := S7x512x4096) ![j.val, l, 0] (S1r n).size h)).set from View.set_reshape _ _,
    View.set_slice_whole]
  ext i
  rw [mem_inA_ats _ _ _ hl hn, Rect.mem_set_unit]
  constructor
  · intro hi
    have h0 := hi 0; have h1 := hi 1
    exact ⟨Fin.ext (by have a : j.val ≤ (i 0).val := h0.1; have b : (i 0).val < j.val + 1 := h0.2; omega), h1⟩
  · rintro ⟨h0, h1⟩ a
    match a with
    | ⟨0, _⟩ => show j.val ≤ (i 0).val ∧ (i 0).val < j.val + 1; rw [h0]; omega
    | ⟨1, _⟩ => exact h1
    | ⟨2, _⟩ => exact ⟨Nat.zero_le _, by have h2 : (i 2).val < 4096 := (i 2).isLt; show (i 2).val < 0 + 4096; omega⟩

theorem cmV_emb (j : Fin 7) (l n : ℕ) (h hs) (x : (Sr n).Idx) (hx : l + (x 0).val < 512) :
    (cmV j.val l n h hs).view.emb x = (ix3 j (⟨l + (x 0).val, hx⟩ : Fin 512) (x 1 : Fin 4096) : S7x512x4096.Idx) := by
  have e : (cmV j.val l n h hs).view.emb x = (Rect.unit (s := S7x512x4096) ![j.val, l, 0] (S1r n).size h).emb (Shape.reshapeEquiv hs.numel_eq x) := rfl
  have e' : Shape.reshapeEquiv hs.numel_eq x = ix3 (⟨0, Nat.one_pos⟩ : Fin 1) (x 0 : Fin n) (x 1 : Fin 4096) := by
    conv_lhs => rw [eq_ix2 x]
    exact reshapeEquiv_ix2_1ab _ _ _
  rw [e, e']
  funext a
  apply Fin.ext
  show _ + 1 * _ = _
  match a with
  | ⟨0, _⟩ => show j.val + 1 * 0 = j.val; omega
  | ⟨1, _⟩ => show l + 1 * (x 0).val = l + (x 0).val; omega
  | ⟨2, _⟩ => show 0 + 1 * (x 1).val = (x 1).val; omega

/-! ## Rows of a 4096-row array; rows of a slot of a two-slot buffer; rows of a slot, loaded -/

theorem rectX_set (l n : ℕ) (h : ∀ a, (![l, 0] : Fin 2 → ℕ) a + (![n, 4096] : Fin 2 → ℕ) a ≤ S512x4096.size a) :
    (Rect.unit (s := S512x4096) ![l, 0] ![n, 4096] h).set = rowsX l n := by
  have := x8V_set l n h
  rwa [show (x8V l n h).view.set = (Rect.unit (s := S512x4096) ![l, 0] ![n, 4096] h).set from View.set_slice_whole cc0_scratch0 _] at this

theorem rectX_emb (l n : ℕ) (h) (x : (⟨2, ![n, 4096]⟩ : Shape).Idx) (hx : l + (x 0).val < 512) :
    (Rect.unit (s := S512x4096) ![l, 0] ![n, 4096] h).emb x = (ix2 (⟨l + (x 0).val, hx⟩ : Fin 512) (x 1 : Fin 4096) : S512x4096.Idx) :=
  x8V_emb l n h x hx

theorem rectW_set (l n : ℕ) (h : ∀ a, (![l, 0] : Fin 2 → ℕ) a + (![n, 1024] : Fin 2 → ℕ) a ≤ S4096x1024.size a) :
    (Rect.unit (s := S4096x1024) ![l, 0] ![n, 1024] h).set = rowsW l n := by
  ext i
  rw [Rect.mem_set_unit, rowsW, Finset.mem_filter, Fin.forall_fin_two]
  have h1 : (i 1).val < 1024 := (i 1).isLt
  simp only [Finset.mem_univ, true_and]
  constructor
  · rintro ⟨h, _⟩; exact h
  · intro h; exact ⟨h, Nat.zero_le _, by show (i 1).val < 0 + 1024; omega⟩

theorem rectW_emb (l n : ℕ) (h) (x : (⟨2, ![n, 1024]⟩ : Shape).Idx) (hx : l + (x 0).val < 4096) :
    (Rect.unit (s := S4096x1024) ![l, 0] ![n, 1024] h).emb x = (ix2 (⟨l + (x 0).val, hx⟩ : Fin 4096) (x 1 : Fin 1024) : S4096x1024.Idx) := by
  funext a
  apply Fin.ext
  show _ + 1 * _ = _
  match a with
  | ⟨0, _⟩ => show l + 1 * (x 0).val = l + (x 0).val; omega
  | ⟨1, _⟩ => show 0 + 1 * (x 1).val = (x 1).val; omega

theorem rectB_set (b l n : ℕ) (h : ∀ a, (![b, l, 0] : Fin 3 → ℕ) a + (![1, n, 1024] : Fin 3 → ℕ) a ≤ S2x512x1024.size a) :
    (Rect.unit (s := S2x512x1024) ![b, l, 0] ![1, n, 1024] h).set = slotB b l n := by
  ext i
  rw [Rect.mem_set_unit, slotB, Finset.mem_filter]
  have h2 : (i 2).val < 1024 := (i 2).isLt
  simp only [Finset.mem_univ, true_and]
  constructor
  · intro hi
    have h0 := hi 0; have h1 := hi 1
    exact ⟨by have a : b ≤ (i 0).val := h0.1; have b : (i 0).val < b + 1 := h0.2; omega, h1⟩
  · rintro ⟨h0, h1⟩ a
    match a with
    | ⟨0, _⟩ => show b ≤ (i 0).val ∧ (i 0).val < b + 1; rw [h0]; omega
    | ⟨1, _⟩ => exact h1
    | ⟨2, _⟩ => exact ⟨Nat.zero_le _, by show (i 2).val < 0 + 1024; omega⟩

theorem rectB_emb (b l n : ℕ) (h) (x : (⟨3, ![1, n, 1024]⟩ : Shape).Idx) (hb : b < 2) (hx : l + (x 1).val < 512) :
    (Rect.unit (s := S2x512x1024) ![b, l, 0] ![1, n, 1024] h).emb x = (ix3 (⟨b, hb⟩ : Fin 2) (⟨l + (x 1).val, hx⟩ : Fin 512) (x 2 : Fin 1024) : S2x512x1024.Idx) := by
  funext a
  apply Fin.ext
  show _ + 1 * _ = _
  have h0 : (x 0).val < 1 := (x 0).isLt
  match a with
  | ⟨0, _⟩ => show b + 1 * (x 0).val = b; omega
  | ⟨1, _⟩ => show l + 1 * (x 1).val = l + (x 1).val; omega
  | ⟨2, _⟩ => show 0 + 1 * (x 2).val = (x 2).val; omega

theorem rectC_set (j : Fin 7) (l n : ℕ) (hl : IsCut l) (hn : IsCut (l + n)) (h : ∀ a, (![j.val, l, 0] : Fin 3 → ℕ) a + (![1, n, 4096] : Fin 3 → ℕ) a ≤ S7x512x4096.size a) :
    (Rect.unit (s := S7x512x4096) ![j.val, l, 0] ![1, n, 4096] h).set = inA (ats j l n) := by
  ext i
  rw [mem_inA_ats _ _ _ hl hn, Rect.mem_set_unit]
  constructor
  · intro hi
    have h0 := hi 0; have h1 := hi 1
    exact ⟨Fin.ext (by have a : j.val ≤ (i 0).val := h0.1; have b : (i 0).val < j.val + 1 := h0.2; omega), h1⟩
  · rintro ⟨h0, h1⟩ a
    match a with
    | ⟨0, _⟩ => show j.val ≤ (i 0).val ∧ (i 0).val < j.val + 1; rw [h0]; omega
    | ⟨1, _⟩ => exact h1
    | ⟨2, _⟩ => exact ⟨Nat.zero_le _, by have h2 : (i 2).val < 4096 := (i 2).isLt; show (i 2).val < 0 + 4096; omega⟩

theorem rectC_emb (j : Fin 7) (l n : ℕ) (h) (x : (⟨3, ![1, n, 4096]⟩ : Shape).Idx) (hx : l + (x 1).val < 512) :
    (Rect.unit (s := S7x512x4096) ![j.val, l, 0] ![1, n, 4096] h).emb x = (ix3 j (⟨l + (x 1).val, hx⟩ : Fin 512) (x 2 : Fin 4096) : S7x512x4096.Idx) := by
  funext a
  apply Fin.ext
  show _ + 1 * _ = _
  have h0 : (x 0).val < 1 := (x 0).isLt
  match a with
  | ⟨0, _⟩ => show j.val + 1 * (x 0).val = j.val; omega
  | ⟨1, _⟩ => show l + 1 * (x 1).val = l + (x 1).val; omega
  | ⟨2, _⟩ => show 0 + 1 * (x 2).val = (x 2).val; omega

/-- Rows `l ..` of a 4096-row array, in either slot of a two-slot buffer. -/
def tileF {α : Type} (f : S4096x1024.Idx → α) (l : ℕ) : S2x512x1024.Idx → α :=
  fun i => f (ix2 (⟨(l + (i 1).val) % 4096, Nat.mod_lt _ (by decide)⟩ : Fin 4096) (i 2 : Fin 1024))

theorem tileF_at {α : Type} (f : S4096x1024.Idx → α) (l : ℕ) (b : Fin 2) (r : Fin 512) (k : Fin 1024) (h : l + r.val < 4096) :
    tileF f l (ix3 b r k) = f (ix2 (⟨l + r.val, h⟩ : Fin 4096) k) := by
  unfold tileF
  congr 2
  exact Fin.ext (Nat.mod_eq_of_lt h)

abbrev S5 : Shape := S512x1024

/-- A slot of the second operand's buffer, and of the result's, and rows of an array of 4096, as the copies name them. -/
abbrev wbV (b : ℕ) (h : ∀ a, (![b, 0, 0] : Fin 3 → ℕ) a + S1x512x1024.size a ≤ S2x512x1024.size a) (hs : S1x512x1024.Squeezes S512x1024) :
    Memref sig .tc .vmem S512x1024 .f32 :=
  (wbM.slice (Rect.unit (s := S2x512x1024) ![b, 0, 0] S1x512x1024.size h) (fun _ => rfl)).squeeze S512x1024 hs
abbrev acV (b : ℕ) (h : ∀ a, (![b, 0, 0] : Fin 3 → ℕ) a + S1x512x1024.size a ≤ S2x512x1024.size a) (hs : S1x512x1024.Squeezes S512x1024) :
    Memref sig .tc .vmem S512x1024 .f32 :=
  (acM.slice (Rect.unit (s := S2x512x1024) ![b, 0, 0] S1x512x1024.size h) (fun _ => rfl)).squeeze S512x1024 hs
abbrev wV (l : ℕ) (h : ∀ a, (![l, 0] : Fin 2 → ℕ) a + S512x1024.size a ≤ S4096x1024.size a) : Memref sig .tc .hbm S512x1024 .f32 :=
  wM.slice (Rect.unit (s := S4096x1024) ![l, 0] S512x1024.size h) (fun _ => rfl)
abbrev oV (l : ℕ) (h : ∀ a, (![l, 0] : Fin 2 → ℕ) a + S512x1024.size a ≤ S4096x1024.size a) : Memref sig .tc .hbm S512x1024 .f32 :=
  oM.slice (Rect.unit (s := S4096x1024) ![l, 0] S512x1024.size h) (fun _ => rfl)

theorem wV_set (l : ℕ) (h) : (wV l h).view.set = rowsW l 512 := (View.set_slice_whole main_arg1 _).trans (rectW_set l 512 h)
theorem oV_set (l : ℕ) (h) : (oV l h).view.set = rowsW l 512 := (View.set_slice_whole main_v3 _).trans (rectW_set l 512 h)
theorem wbV_set (b : ℕ) (h hs) : (wbV b h hs).view.set = slotB b 0 512 :=
  (show (wbV b h hs).view.set = ((View.whole cc0_scratch2).slice (Rect.unit (s := S2x512x1024) ![b, 0, 0] S1x512x1024.size h)).set from View.set_reshape _ _).trans
    ((View.set_slice_whole cc0_scratch2 _).trans (rectB_set b 0 512 h))
theorem acV_set (b : ℕ) (h hs) : (acV b h hs).view.set = slotB b 0 512 :=
  (show (acV b h hs).view.set = ((View.whole cc0_scratch7).slice (Rect.unit (s := S2x512x1024) ![b, 0, 0] S1x512x1024.size h)).set from View.set_reshape _ _).trans
    ((View.set_slice_whole cc0_scratch7 _).trans (rectB_set b 0 512 h))

/-- An index of a squeezed slot, in the buffer. -/
theorem slot_emb (b : ℕ) (h : ∀ a, (![b, 0, 0] : Fin 3 → ℕ) a + S1x512x1024.size a ≤ S2x512x1024.size a) (hs : S1x512x1024.Squeezes S512x1024)
    (hb : b < 2) (x : S512x1024.Idx) :
    (Rect.unit (s := S2x512x1024) ![b, 0, 0] S1x512x1024.size h).emb (Shape.reshapeEquiv hs.numel_eq x)
      = (ix3 (⟨b, hb⟩ : Fin 2) (x 0 : Fin 512) (x 1 : Fin 1024) : S2x512x1024.Idx) := by
  have e' : Shape.reshapeEquiv hs.numel_eq x = ix3 (⟨0, Nat.one_pos⟩ : Fin 1) (x 0 : Fin 512) (x 1 : Fin 1024) := by
    conv_lhs => rw [eq_ix2 x]
    exact reshapeEquiv_ix2_1ab _ _ _
  have h0 : (x 0).val < 512 := (x 0).isLt
  refine (congrArg _ e').trans ((rectB_emb b 0 512 h _ hb (by show 0 + (x 0).val < 512; omega)).trans ?_)
  funext a
  apply Fin.ext
  match a with
  | ⟨0, _⟩ => rfl
  | ⟨1, _⟩ => show 0 + (x 0).val = (x 0).val; omega
  | ⟨2, _⟩ => rfl

end Cert.Ring

end
-- ==== Proof.Steps.lean ====
/-
What a device holds of the talk while its body runs, and one lemma a kind of step: a transfer issued, a wait for
what is received, a wait for what was sent.

`Comm X c k w n` is the state after `k` transfers issued, `w` waits on the send cells and `n` on the receive cells.
-/
module

public import proofs.«01_k».proof.Proof.Views

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (X : Dev nD → S512x4096.Idx → Elt F .f32) (Wt : Dev nD → S4096x1024.Idx → Elt F .f32) (sc : Dev nD → Elt F .f32)

/-! ## Every cell's invariant, at names `K`, and the levels -/

variable (K : GSem nD τ sig → ℕ)

def Inv : sProp 𝕄 :=
  iprop((bigSep Finset.univ fun c : Dev nD => cellInv ER (Rd X) (K (barCell c)) (barCell c))
    ∗ (bigSep Finset.univ fun p : Dev nD × Fin 27 => cellInv ER (Rd X) (K (sendCell p.2 p.1)) (sendCell p.2 p.1))
    ∗ (bigSep Finset.univ fun p : Dev nD × Fin 27 => cellInv ER (Rd X) (K (recvCell p.2 p.1)) (recvCell p.2 p.1)))

instance Inv_persistent : BI.Persistent (Inv X K : sProp 𝕄) := by unfold Inv; infer_instance

theorem Inv_bar (c : Dev nD) : (Inv X K : sProp 𝕄) ⊢ cellInv ER (Rd X) (K (barCell c)) (barCell c) :=
  sep_elim_left.trans (BI.bigSep_elim (Φ := fun c : Dev nD => (cellInv ER (Rd X) (K (barCell c)) (barCell c) : sProp 𝕄)) (Finset.mem_univ c))
theorem Inv_send (t : Fin 27) (c : Dev nD) : (Inv X K : sProp 𝕄) ⊢ cellInv ER (Rd X) (K (sendCell t c)) (sendCell t c) :=
  (sep_elim_right.trans sep_elim_left).trans
    (BI.bigSep_elim (Φ := fun p : Dev nD × Fin 27 => (cellInv ER (Rd X) (K (sendCell p.2 p.1)) (sendCell p.2 p.1) : sProp 𝕄)) (Finset.mem_univ (c, t)))
theorem Inv_recv (t : Fin 27) (c : Dev nD) : (Inv X K : sProp 𝕄) ⊢ cellInv ER (Rd X) (K (recvCell t c)) (recvCell t c) :=
  (sep_elim_right.trans sep_elim_right).trans
    (BI.bigSep_elim (Φ := fun p : Dev nD × Fin 27 => (cellInv ER (Rd X) (K (recvCell p.2 p.1)) (recvCell p.2 p.1) : sProp 𝕄)) (Finset.mem_univ (c, t)))

def Ctx : sProp 𝕄 := iprop(Inv X K ∗ levAts L lv)
instance Ctx_persistent : BI.Persistent (Ctx X K : sProp 𝕄) := by unfold Ctx; infer_instance

/-! ## The state of the talk -/

/-- What is held for outgoing transfer `t`. -/
def outRes (t : Fin 27) (c : Dev nD) (k w : ℕ) : sProp 𝕄 :=
  if pos t < k then
    (if t.val < w then iprop(sendPay X t c ∗ semVal (sendCell t c) 0)
     else iprop(cred (tallyAt (sendCell t c) () (N t)) ∗ atPos ER (sendCell t c) 0 ∅ 0))
  else iprop(dutyTok ER (sendCell t c) 0 0 ∗ dutyTok ER (recvCell t (peer t c)) 0 0 ∗ reached ER (sendCell t c) 0
    ∗ atPos ER (sendCell t c) 0 ∅ 0 ∗ Dst t c)

/-- What is held for incoming transfer `t`. -/
def inRes (t : Fin 27) (c : Dev nD) (n : ℕ) : sProp 𝕄 :=
  if wpos t < n then semVal (recvCell t c) 0 else iprop(cred (tallyAt (recvCell t c) () (N t)) ∗ atPos ER (recvCell t c) 0 ∅ 0)

/-- What has been received; what is lent to transfers of the second and third stage. -/
def gotA (n : ℕ) : Finset Atom := (Finset.univ.filter fun t : Fin 27 => wpos t < n).biUnion dstA
def lentA (k : ℕ) : Finset Atom := (Finset.univ.filter fun t : Fin 27 => 12 ≤ t.val ∧ pos t < k).biUnion srcA

def Comm (c : Dev nD) (k w n : ℕ) : sProp 𝕄 :=
  iprop((∃ W, owes (c : Thread nD τ) (debt c k) W)
    ∗ (bigSep Finset.univ fun t : Fin 27 => outRes X t c k w)
    ∗ (bigSep Finset.univ fun t : Fin 27 => inRes (F := F) t c n)
    ∗ cmPt c fullShare.left (gotA n \ lentA k) (commF X c)
    ∗ cmPt c fullShare.right (gotA n) (commF X c))

theorem outRes_issue (t : Fin 27) (c : Dev nD) (k w : ℕ) (h : pos t = k) (hw : w ≤ t.val) (k' : ℕ) (hk' : k' = k + 1) :
    (bigSep Finset.univ fun t : Fin 27 => outRes X t c k w)
      = iprop((dutyTok ER (sendCell t c) 0 0 ∗ dutyTok ER (recvCell t (peer t c)) 0 0 ∗ reached ER (sendCell t c) 0
          ∗ atPos ER (sendCell t c) 0 ∅ 0 ∗ Dst t c) ∗ bigSep (Finset.univ.erase t) fun t => outRes X t c k' w) := by
  rw [BI.bigSep_univ_split t]
  congr 1
  · unfold outRes; rw [if_neg (by omega)]
  · refine BI.bigSep_congr fun t' ht' => ?_
    have hne : pos t' ≠ k := fun h2 => (Finset.mem_erase.1 ht').1 (pos_inj _ _ (h2.trans h.symm))
    unfold outRes
    by_cases hlt : pos t' < k
    · rw [if_pos hlt, if_pos (show pos t' < k' by omega)]
    · rw [if_neg hlt, if_neg (show ¬ pos t' < k' by omega)]

theorem outRes_issued (t : Fin 27) (c : Dev nD) (k w : ℕ) (h : pos t = k) (hw : w ≤ t.val) (k' : ℕ) (hk' : k' = k + 1) :
    (bigSep Finset.univ fun t : Fin 27 => outRes X t c k' w)
      = iprop((cred (tallyAt (sendCell t c) () (N t)) ∗ atPos ER (sendCell t c) 0 ∅ 0) ∗ bigSep (Finset.univ.erase t) fun t => outRes X t c k' w) := by
  rw [BI.bigSep_univ_split t]
  congr 1
  unfold outRes; rw [if_pos (by omega), if_neg (by omega)]

theorem outRes_wait (t : Fin 27) (c : Dev nD) (w : ℕ) (h : t.val = w) :
    (bigSep Finset.univ fun t : Fin 27 => outRes X t c 27 w)
      = iprop((cred (tallyAt (sendCell t c) () (N t)) ∗ atPos ER (sendCell t c) 0 ∅ 0) ∗ bigSep (Finset.univ.erase t) fun t => outRes X t c 27 (w + 1)) := by
  rw [BI.bigSep_univ_split t]
  congr 1
  · unfold outRes; rw [if_pos (pos_lt t), if_neg (by omega)]
  · refine BI.bigSep_congr fun t' ht' => ?_
    have hne : t'.val ≠ w := fun h2 => (Finset.mem_erase.1 ht').1 (Fin.ext (h2.trans h.symm))
    unfold outRes
    rw [if_pos (pos_lt t'), if_pos (pos_lt t')]
    by_cases hlt : t'.val < w
    · rw [if_pos hlt, if_pos (by omega)]
    · rw [if_neg hlt, if_neg (by omega)]

theorem outRes_waited (t : Fin 27) (c : Dev nD) (w : ℕ) (h : t.val = w) :
    (bigSep Finset.univ fun t : Fin 27 => outRes X t c 27 (w + 1))
      = iprop((sendPay X t c ∗ semVal (sendCell t c) 0) ∗ bigSep (Finset.univ.erase t) fun t => outRes X t c 27 (w + 1)) := by
  rw [BI.bigSep_univ_split t]
  congr 1
  unfold outRes; rw [if_pos (pos_lt t), if_pos (by omega)]

theorem inRes_wait (t : Fin 27) (c : Dev nD) (n : ℕ) (h : wpos t = n) (n' : ℕ) (hn' : n' = n + 1) :
    (bigSep Finset.univ fun t : Fin 27 => inRes (F := F) t c n)
      = iprop((cred (tallyAt (recvCell t c) () (N t)) ∗ atPos ER (recvCell t c) 0 ∅ 0) ∗ bigSep (Finset.univ.erase t) fun t => inRes (F := F) t c n') := by
  rw [BI.bigSep_univ_split t]
  congr 1
  · unfold inRes; rw [if_neg (by omega)]
  · refine BI.bigSep_congr fun t' ht' => ?_
    have hne : wpos t' ≠ n := fun h2 => (Finset.mem_erase.1 ht').1 (wpos_inj _ _ (h2.trans h.symm))
    unfold inRes
    by_cases hlt : wpos t' < n
    · rw [if_pos hlt, if_pos (by omega)]
    · rw [if_neg hlt, if_neg (by omega)]

theorem inRes_waited (t : Fin 27) (c : Dev nD) (n : ℕ) (h : wpos t = n) (n' : ℕ) (hn' : n' = n + 1) :
    (bigSep Finset.univ fun t : Fin 27 => inRes (F := F) t c n')
      = iprop(semVal (recvCell t c) 0 ∗ bigSep (Finset.univ.erase t) fun t => inRes (F := F) t c n') := by
  rw [BI.bigSep_univ_split t]
  congr 1
  unfold inRes; rw [if_pos (by omega)]

theorem gotA_step (t : Fin 27) (n : ℕ) (h : wpos t = n) : gotA (n + 1) = gotA n ∪ dstA t ∧ Disjoint (gotA n) (dstA t) := by
  constructor
  · ext a
    simp only [gotA, Finset.mem_union, Finset.mem_biUnion, Finset.mem_filter, Finset.mem_univ, true_and]
    constructor
    · rintro ⟨t', h', ha⟩
      by_cases e : wpos t' = n
      · exact .inr (by rwa [wpos_inj _ _ (h.trans e.symm)])
      · exact .inl ⟨t', by omega, ha⟩
    · rintro (⟨t', h', ha⟩ | ha)
      · exact ⟨t', by omega, ha⟩
      · exact ⟨t, by omega, ha⟩
  · rw [gotA, Finset.disjoint_biUnion_left]
    intro t' ht'
    refine dstA_disjoint _ _ fun e => ?_
    rw [Finset.mem_filter, e, h] at ht'
    omega

theorem lentA_step (t : Fin 27) (k : ℕ) (h : pos t = k) (ht : 12 ≤ t.val) : lentA (k + 1) = lentA k ∪ srcA t := by
  ext a
  simp only [lentA, Finset.mem_union, Finset.mem_biUnion, Finset.mem_filter, Finset.mem_univ, true_and]
  constructor
  · rintro ⟨t', ⟨h0, h'⟩, ha⟩
    by_cases e : pos t' = k
    · exact .inr (by rwa [pos_inj _ _ (h.trans e.symm)])
    · exact .inl ⟨t', ⟨h0, by omega⟩, ha⟩
  · rintro (⟨t', ⟨h0, h'⟩, ha⟩ | ha)
    · exact ⟨t', ⟨h0, by omega⟩, ha⟩
    · exact ⟨t, ⟨ht, by omega⟩, ha⟩

theorem lentA_small (t : Fin 27) (k : ℕ) (h : pos t = k) (ht : t.val < 12) : lentA (k + 1) = lentA k := by
  unfold lentA
  congr 1
  ext t'
  simp only [Finset.mem_filter, Finset.mem_univ, true_and]
  constructor
  · rintro ⟨h0, h'⟩
    refine ⟨h0, ?_⟩
    have : pos t' ≠ k := fun e => by rw [pos_inj _ _ (e.trans h.symm)] at h0; omega
    omega
  · rintro ⟨h0, h'⟩; exact ⟨h0, by omega⟩

theorem cmPt_join {c : Dev nD} {q : PosShare TreeShare} {A B : Finset Atom} {f : S7x512x4096.Idx → Elt F .fp8e5m2} (h : Disjoint A B) :
    iprop(cmPt c q A f ∗ cmPt c q B f) ⊢ cmPt c q (A ∪ B) f := by
  unfold cmPt
  rw [inA_union]
  exact (pointsTo_union (inA_disjoint h)).2

theorem cmPt_take {c : Dev nD} {q : PosShare TreeShare} {A B : Finset Atom} {f : S7x512x4096.Idx → Elt F .fp8e5m2} (h : B ⊆ A) :
    (cmPt c q A f : sProp 𝕄) ⊢ iprop(cmPt c q B f ∗ cmPt c q (A \ B) f) := by
  unfold cmPt
  rw [inA_sdiff]
  exact (pointsTo_split_subset (inA_subset h)).1

/-! ## A wait for what is received -/

/-- The level of the receive cells below everything still owed at that point. -/
def Below (t : Fin 27) (k : ℕ) : Prop := ∀ t' : Fin 27, k ≤ pos t' → lvl (.dma (recvS t)) < lvl (.dma (recvS t'))
instance (t : Fin 27) (k : ℕ) : Decidable (Below t k) := by unfold Below; infer_instance

/-- A copy's amount and the credit of a wait for it, of `n` rows. -/
theorem amount_rows (t : Fin 27) (n : ℕ) (hn : nr t = n) (m : Memref sig .tc .vmem (Sr n) .fp8e5m2) : m.view.dmaCredit = N t := by
  subst hn; rfl

theorem wp_recv {c : Dev nD} {k w n : ℕ} (t : Fin 27) {α : Type} {Q : α → sProp 𝕄}
    {sS : DmaSem sig} (hsem : sS = recvS t) {s' : Shape} {e' : EltTy} {sp' : Space} {n' : ℕ} (hn : nr t = n') {src : Memref sig .tc sp' s' e'} {dst : Memref sig .tc .vmem (Sr n') .fp8e5m2}
    {hs : src.view.WordExact} {hd : dst.view.WordExact} {kt : PUnit → Prog (TpuEff nD τ sig (Elt F) Λ₀ .tc) α}
    (h : wpos t = n ∧ Below t k) (hl : Disjoint (lentA k) (dstA t)) :
    iprop(Ctx X K ∗ Comm X c k w n) ⊢ iprop((Comm X c k w (n + 1) -∗ WP c (kt ⟨⟩) Q)
      -∗ WP c (.op (.waitDma2 sS src dst hs hd) kt) Q) := by
  subst hsem
  unfold Ctx Comm
  rw [inRes_wait t c n h.1 _ rfl]
  iintro ⟨⟨#HI, #Hlev⟩, ⟨%W, HO⟩, Hout, ⟨⟨Hc, Hat⟩, Hin⟩, HL, HR⟩ Hk
  ihave #Hi := (Inv_recv X K t c) $$ HI
  iapply (Rounds.wp_wait_rest_token 𝒱₀ ER (Rd X) (c : Thread nD τ) none (κ := K (recvCell t c))
      (wpE_waitDma2_eq (src := src) (dst := dst) 𝒱₀ (c : Thread nD τ) none Set.univ) (Set.mem_univ _) () (O := debt c k) (W := W) (R := 0) (m := 0) (T := ∅)
      ((Nat.zero_add _).trans ((amount_rows t n' hn dst).trans (expect_recv X t c).symm))) $$ [Hc HO Hat]
  · isplitr; · iexact Hi
    isplitl [Hc]; · rw [amount_rows t n' hn dst]; iexact Hc
    isplitl [HO]; · iexact HO
    isplitr; · iapply (mayWait_debt c k (.dma (recvS t)) h.2); iexact Hlev
    iexact Hat
  iintro ⟨HO, Hat, -, Hpay⟩
  ihave Hp := (Entails.of_eq ((rest_recv X t c).trans (by unfold recvPay; rfl : _ = cmPt c fullShare (dstA t) (commF X c)))) $$ Hpay
  ihave Hp := (pointsTo_share (PosShare.mem_left_op_right fullShare)).1 $$ Hp
  icases Hp with ⟨HpL, HpR⟩
  imod (close X (K (recvCell t c)) (recvCell t c)) $$ [Hat] with Hv
  · isplitr; · iexact Hi
    iexact Hat
  iapply Hk
  rw [inRes_waited t c n h.1 _ rfl, (gotA_step t n h.1).1]
  isplitl [HO]; · iexists _; iexact HO
  isplitl [Hout]; · iexact Hout
  isplitl [Hv Hin]
  · isplitl [Hv]; · iexact Hv
    iexact Hin
  have hd' := (gotA_step t n h.1).2
  isplitl [HL HpL]
  · rw [show (gotA n ∪ dstA t) \ lentA k = (gotA n \ lentA k) ∪ dstA t from by
      rw [Finset.union_sdiff_distrib, Finset.sdiff_eq_self_of_disjoint hl.symm]]
    iapply (cmPt_join (Finset.disjoint_of_subset_left Finset.sdiff_subset hd'))
    isplitl [HL]; · iexact HL
    iexact HpL
  · iapply (cmPt_join hd')
    isplitl [HR]; · iexact HR
    iexact HpR

/-! ## A wait for what was sent -/

theorem wp_sent {c : Dev nD} {w n : ℕ} (t : Fin 27) {α : Type} {Q : α → sProp 𝕄}
    {sS : DmaSem sig} (hsem : sS = sendS t) {s' : Shape} {e' : EltTy} {sp' : Space} {n' : ℕ} (hn : nr t = n') {src : Memref sig .tc sp' s' e'} {dst : Memref sig .tc .vmem (Sr n') .fp8e5m2}
    {hs : src.view.WordExact} {hd : dst.view.WordExact} {kt : PUnit → Prog (TpuEff nD τ sig (Elt F) Λ₀ .tc) α}
    (h : t.val = w) :
    iprop(Ctx X K ∗ Comm X c 27 w n) ⊢ iprop((Comm X c 27 (w + 1) n -∗ WP c (kt ⟨⟩) Q)
      -∗ WP c (.op (.waitDma2 sS src dst hs hd) kt) Q) := by
  subst hsem
  unfold Ctx Comm
  rw [outRes_wait X t c w h]
  iintro ⟨⟨#HI, #Hlev⟩, ⟨%W, HO⟩, ⟨⟨Hc, Hat⟩, Hout⟩, Hin, HL, HR⟩ Hk
  ihave #Hi := (Inv_send X K t c) $$ HI
  iapply (Rounds.wp_wait_rest_token 𝒱₀ ER (Rd X) (c : Thread nD τ) none (κ := K (sendCell t c))
      (wpE_waitDma2_eq (src := src) (dst := dst) 𝒱₀ (c : Thread nD τ) none Set.univ) (Set.mem_univ _) () (O := debt c 27) (W := W) (R := 0) (m := 0) (T := ∅)
      ((Nat.zero_add _).trans ((amount_rows t n' hn dst).trans (expect_send X t c).symm))) $$ [Hc HO Hat]
  · isplitr; · iexact Hi
    isplitl [Hc]; · rw [amount_rows t n' hn dst]; iexact Hc
    isplitl [HO]; · iexact HO
    isplitr
    · iapply (mayWait_debt c 27 (.dma (sendS t)) (fun t' ht' => absurd (pos_lt t') (by omega))); iexact Hlev
    iexact Hat
  iintro ⟨HO, Hat, -, Hpay⟩
  ihave Hp := (Entails.of_eq (rest_send X t c)) $$ Hpay
  imod (close X (K (sendCell t c)) (sendCell t c)) $$ [Hat] with Hv
  · isplitr; · iexact Hi
    iexact Hat
  iapply Hk
  rw [outRes_waited X t c w h]
  isplitl [HO]; · iexists _; iexact HO
  isplitl [Hv Hout Hp]
  · isplitl [Hv Hp]
    · isplitl [Hp]; · iexact Hp
      iexact Hv
    iexact Hout
  isplitl [Hin]; · iexact Hin
  isplitl [HL]; · iexact HL
  iexact HR

/-! ## A transfer issued -/

/-- What lands: rows of the narrowed `x`, or of a slot already filled, read as the target's slot will hold them. -/
theorem x8V_read (l n : ℕ) (h) (f : S512x4096.Idx → Elt F .fp8e5m2) (x : (Sr n).Idx) (hx : l + (x 0).val < 512) :
    (x8V l n h).view.read (Elt F) f x = f (ix2 (⟨l + (x 0).val, hx⟩ : Fin 512) (x 1 : Fin 4096)) := by
  rw [View.read_apply, x8V_emb _ _ _ x hx]
  rfl

theorem cmV_read (j : Fin 7) (l n : ℕ) (h hs) (f : S7x512x4096.Idx → Elt F .fp8e5m2) (x : (Sr n).Idx) (hx : l + (x 0).val < 512) :
    (cmV j.val l n h hs).view.read (Elt F) f x = f (ix3 j (⟨l + (x 0).val, hx⟩ : Fin 512) (x 1 : Fin 4096)) := by
  rw [View.read_apply, cmV_emb _ _ _ _ _ x hx]
  rfl

theorem rows_lt (t : Fin 27) (n : ℕ) (e : nr t = n) (r : Fin n) : lo t + r.val < 512 := by
  subst e
  have : lo t + nr t ≤ 512 := by revert t; decide
  have := r.isLt
  omega

theorem mask_x (t : Fin 27) (ht : t.val < 12) (c : Dev nD) : xr (mask (dj t)) (peer t c) = c := by
  have : mask (dj t) = pm (dir t) := by revert ht; revert t; decide
  rw [this]; exact peer_peer t c
theorem mask_c (t : Fin 27) (ht : 12 ≤ t.val) (c : Dev nD) : xr (mask (sj t)) c = xr (mask (dj t)) (peer t c) := by
  revert ht; revert t c; decide

theorem land_x (t : Fin 27) (ht : t.val < 12) (c : Dev nD) (n : ℕ) (e : nr t = n) (h1 h2 hs) (x : (Sr n).Idx) :
    (x8V (lo t) n h1).view.read (Elt F) (x8F X c) x = (cmV (dj t).val (lo t) n h2 hs).view.read (Elt F) (commF X (peer t c)) x := by
  have hx := rows_lt t n e (x 0)
  rw [x8V_read _ _ _ _ x hx, cmV_read _ _ _ _ _ _ x hx]
  show _ = x8F X (xr (mask (dj t)) (peer t c)) _
  rw [mask_x t ht c]

theorem land_c (t : Fin 27) (ht : 12 ≤ t.val) (c : Dev nD) (n : ℕ) (e : nr t = n) (h1 hs1 h2 hs2) (x : (Sr n).Idx) :
    (cmV (sj t).val (lo t) n h1 hs1).view.read (Elt F) (commF X c) x = (cmV (dj t).val (lo t) n h2 hs2).view.read (Elt F) (commF X (peer t c)) x := by
  have hx := rows_lt t n e (x 0)
  rw [cmV_read _ _ _ _ _ _ x hx, cmV_read _ _ _ _ _ _ x hx]
  show x8F X (xr (mask (sj t)) c) _ = x8F X (xr (mask (dj t)) (peer t c)) _
  rw [mask_c t ht c]

/-- What a transfer needs of its source, and what is left of it. -/
theorem wp_xfer {c : Dev nD} {k n : ℕ} (t : Fin 27) {α : Type} {Q : α → sProp 𝕄}
    {d : Dev nD} (hdev : d = peer t c) {s1 s2 : DmaSem sig} (hs1 : s1 = sendS t) (hs2 : s2 = recvS t)
    {m : ℕ} (hm : nr t = m) {src : Memref sig .tc .vmem (Sr m) .fp8e5m2} {h2 : ∀ a, (![(dj t).val, lo t, 0] : Fin 3 → ℕ) a + (S1r m).size a ≤ S7x512x4096.size a}
    {hq : (S1r m).Squeezes (Sr m)}
    {hs : src.view.WordExact} {hd : (cmV (dj t).val (lo t) m h2 hq).view.WordExact} {hsc}
    {hsem} {kt : PUnit → Prog (TpuEff nD τ sig (Elt F) Λ₀ .tc) α}
    (h : pos t = k) {q : PosShare TreeShare} {fs : Buf (Elt F) (src.view.loc (c : Thread nD τ))}
    (hpay : (src.view.loc (c : Thread nD τ) ↦[src.view.set]{q} fs) ⊢ sendPay X t c)
    (hland : ∀ x, src.view.read (Elt F) fs x = (cmV (dj t).val (lo t) m h2 hq).view.read (Elt F) (commF X (peer t c)) x) :
    iprop(Ctx X K ∗ (src.view.loc (c : Thread nD τ) ↦[src.view.set]{q} fs) ∗ (∃ W, owes (c : Thread nD τ) (debt c k) W) ∗ (bigSep Finset.univ fun t : Fin 27 => outRes X t c k 0))
      ⊢ iprop(((∃ W, owes (c : Thread nD τ) (debt c (k + 1)) W) ∗ (bigSep Finset.univ fun t : Fin 27 => outRes X t c (k + 1) 0) -∗ WP c (kt ⟨⟩) Q)
      -∗ WP c (.op (.enqueueDma src (.remote (Dev.tc d) (cmV (dj t).val (lo t) m h2 hq) (.dma s1) hsc) (.dma s2) hs hd hsem) kt) Q) := by
  subst hs1 hs2 hdev
  unfold Ctx
  rw [outRes_issue X t c k 0 h (Nat.zero_le _) _ rfl, outRes_issued X t c k 0 h (Nat.zero_le _) _ rfl]
  unfold Dst
  iintro ⟨⟨#HI, #Hlev⟩, Hsrc, ⟨%W, HO⟩, ⟨⟨Hts, Htr, #Hrs, Hat, ⟨⟨%fd, Hdst⟩, #Hrr⟩⟩, Hout⟩⟩ Hk
  ihave #Hi1 := (Inv_send X K t c) $$ HI
  ihave #Hi2 := (Inv_recv X K t (peer t c)) $$ HI
  have hset : (cmV (dj t).val (lo t) m h2 hq).view.set = inA (dstA t) := by
    rw [dstA, hm]; exact cmV_set _ _ _ (cut_lo t) (hm ▸ cut_hi t) h2 hq
  have hN : (cmV (dj t).val (lo t) m h2 hq).view.amount (.dma (recvS t)) = N t := by subst hm; rfl
  iapply (Rounds.wp_send_pointsTo 𝒱₀ ER (Rd X) (c : Thread nD τ) none (c' := (peer t c : Thread nD τ)) (src := src) (dst := cmV (dj t).val (lo t) m h2 hq)
      (sS := .dma (sendS t)) (sem := .dma (recvS t)) (q := q) (fs := fs) (κ₁ := K (sendCell t c)) (κ₂ := K (recvCell t (peer t c)))
      (r₁ := 0) (r₂ := 0) (d₁ := 0) (d₂ := 0) (fd := fd)
      (by rw [duties_send]; exact Finset.mem_singleton_self _) (by rw [duties_recv]; exact Finset.mem_singleton_self _)
      () () (N t) hN (amount_send X t c 0) (amount_recv X t (peer t c) 0) (debt c (k + 1)) (debt_step c t k h) (W := W)
      (by rw [payload_send]; exact hpay)
      (by
        rw [payload_recv]; unfold recvPay
        refine Entails.of_eq ?_
        rw [hset]
        exact pointsTo_congr fun i hi => write_eq_on _ _ _ _ hland i (by rw [hset]; exact hi))) $$ [Hsrc Hdst HO Hts Htr]
  · isplitr; · iexact Hi1
    isplitr; · iexact Hi2
    isplitl [Hsrc]; · iexact Hsrc
    isplitl [Hdst]; · rw [hset]; iexact Hdst
    isplitl [HO]; · iexact HO
    isplitl [Hts]; · iexact Hts
    isplitr; · iexact Hrs
    isplitl [Htr]; · iexact Htr
    iexact Hrr
  iintro ⟨Hc, HO⟩
  iapply Hk
  isplitl [HO]; · iexists _; iexact HO
  isplitl [Hc Hat]
  · isplitl [Hc]; · iexact Hc
    iexact Hat
  iexact Hout

/-- A transfer of the first stage: from the narrowed `x`, a quarter of whose share goes with it. -/
theorem wp_send_x {c : Dev nD} {k n : ℕ} (t : Fin 27) {α : Type} {Q : α → sProp 𝕄}
    {d : Dev nD} (hdev : d = peer t c) {s1 s2 : DmaSem sig} (hs1 : s1 = sendS t) (hs2 : s2 = recvS t)
    {j l m : ℕ} (hj : (dj t).val = j) (hl : lo t = l) (hm : nr t = m)
    {h1 : ∀ a, (![l, 0] : Fin 2 → ℕ) a + (Sr m).size a ≤ S512x4096.size a}
    {h2 : ∀ a, (![j, l, 0] : Fin 3 → ℕ) a + (S1r m).size a ≤ S7x512x4096.size a} {hq : (S1r m).Squeezes (Sr m)}
    {hs : (x8V l m h1).view.WordExact} {hd : (cmV j l m h2 hq).view.WordExact} {hsc} {hsem}
    {kt : PUnit → Prog (TpuEff nD τ sig (Elt F) Λ₀ .tc) α} (h : pos t = k ∧ t.val < 12) :
    iprop(Ctx X K ∗ Comm X c k 0 n ∗ x8Pt c (dsh t) (rowsX l m) (x8F X c))
      ⊢ iprop((Comm X c (k + 1) 0 n -∗ WP c (kt ⟨⟩) Q)
      -∗ WP c (.op (.enqueueDma (x8V l m h1) (.remote (Dev.tc d) (cmV j l m h2 hq) (.dma s1) hsc) (.dma s2) hs hd hsem) kt) Q) := by
  subst hj hl
  unfold Comm
  rw [lentA_small t k h.1 h.2]
  iintro ⟨#HC, ⟨HO, Hout, Hin, HL, HR⟩, Hx⟩ Hk
  iapply (wp_xfer X K (n := n) t hdev hs1 hs2 hm h.1 (q := dsh t) (fs := x8F X c)
    (by unfold sendPay; rw [if_pos h.2, x8V_set, hm]) (land_x X t h.2 c m hm _ _ _)) $$ [HO Hout Hx]
  · isplitr; · iexact HC
    isplitl [Hx]; · rw [x8V_set]; iexact Hx
    isplitl [HO]; · iexact HO
    iexact Hout
  iintro ⟨HO, Hout⟩
  iapply Hk
  isplitl [HO]; · iexact HO
  isplitl [Hout]; · iexact Hout
  isplitl [Hin]; · iexact Hin
  isplitl [HL]; · iexact HL
  iexact HR

/-- A transfer of a later stage: from a slot already filled, half of whose share goes with it. -/
theorem wp_send_c {c : Dev nD} {k n : ℕ} (t : Fin 27) {α : Type} {Q : α → sProp 𝕄}
    {d : Dev nD} (hdev : d = peer t c) {s1 s2 : DmaSem sig} (hs1 : s1 = sendS t) (hs2 : s2 = recvS t)
    {i j l m : ℕ} (hi : (sj t).val = i) (hj : (dj t).val = j) (hl : lo t = l) (hm : nr t = m)
    {h1 : ∀ a, (![i, l, 0] : Fin 3 → ℕ) a + (S1r m).size a ≤ S7x512x4096.size a} {hq1 : (S1r m).Squeezes (Sr m)}
    {h2 : ∀ a, (![j, l, 0] : Fin 3 → ℕ) a + (S1r m).size a ≤ S7x512x4096.size a} {hq : (S1r m).Squeezes (Sr m)}
    {hs : (cmV i l m h1 hq1).view.WordExact} {hd : (cmV j l m h2 hq).view.WordExact} {hsc} {hsem}
    {kt : PUnit → Prog (TpuEff nD τ sig (Elt F) Λ₀ .tc) α} (h : pos t = k ∧ 12 ≤ t.val) (hsub : srcA t ⊆ gotA n \ lentA k) :
    iprop(Ctx X K ∗ Comm X c k 0 n)
      ⊢ iprop((Comm X c (k + 1) 0 n -∗ WP c (kt ⟨⟩) Q)
      -∗ WP c (.op (.enqueueDma (cmV i l m h1 hq1) (.remote (Dev.tc d) (cmV j l m h2 hq) (.dma s1) hsc) (.dma s2) hs hd hsem) kt) Q) := by
  subst hi hj hl
  have hset : (cmV (sj t).val (lo t) m h1 hq1).view.set = inA (srcA t) := by
    rw [srcA, hm]; exact cmV_set _ _ _ (cut_lo t) (hm ▸ cut_hi t) h1 hq1
  unfold Comm
  rw [lentA_step t k h.1 h.2, show gotA n \ (lentA k ∪ srcA t) = (gotA n \ lentA k) \ srcA t from by ext a; simp only [Finset.mem_sdiff, Finset.mem_union]; tauto]
  iintro ⟨#HC, ⟨HO, Hout, Hin, HL, HR⟩⟩ Hk
  ihave HL' := (cmPt_take hsub) $$ HL
  icases HL' with ⟨Hx, HL⟩
  iapply (wp_xfer X K (n := n) t hdev hs1 hs2 hm h.1 (q := fullShare.left) (fs := commF X c)
    (by unfold sendPay; rw [if_neg (by omega), hset]) (land_c X t h.2 c m hm _ _ _ _)) $$ [HO Hout Hx]
  · isplitr; · iexact HC
    isplitl [Hx]; · rw [hset]; iexact Hx
    isplitl [HO]; · iexact HO
    iexact Hout
  iintro ⟨HO, Hout⟩
  iapply Hk
  isplitl [HO]; · iexact HO
  isplitl [Hout]; · iexact Hout
  isplitl [Hin]; · iexact Hin
  isplitl [HL]; · iexact HL
  iexact HR

end Cert.Ring

end
-- ==== Proof.Local.lean ====
/-
The steps a device takes by itself: the copies of the second operand's tiles into a two-slot buffer, the copies of
the result's blocks out of another, and what each of those buffers holds.

`outF c` is device `c`'s result: rows `512 e ..` are the product of device `e`'s narrowed `x` with the own narrowed
second operand, scaled; the block that arrives last (from the device XOR 6) is computed in three runs of rows.
-/
module

public import proofs.«01_k».proof.Proof.Steps

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight Flight_mono wp_dmaLocal wp_waitLocalO)

variable {F : FTy → Type} [FloatOps F]

local notation "𝕄" => MT nD τ sig Unit (Elt F) ℕ UU ℕ

variable (X : Dev nD → S512x4096.Idx → Elt F .f32) (Wt : Dev nD → S4096x1024.Idx → Elt F .f32) (sc : Dev nD → Elt F .f32)

variable (K : GSem nD τ sig → ℕ)

/-! ## A local copy's wait, whatever is still owed -/

theorem mayWait_low (c : Dev nD) (k : ℕ) (s : DmaSem sig) (hs : kd (.dma s) = .other) :
    (levAts L lv : sProp 𝕄) ⊢ MayWait (c : Thread nD τ) (.dma s) () (debt c k) := by
  refine mayWait_debt c k _ fun t _ => ?_
  have h1 : lvl (.dma s) = 0 := by unfold lvl; rw [hs]
  have h2 : ∀ t : Fin 27, 0 < lvl (.dma (recvS t)) := by decide
  rw [h1]; exact h2 t

/-- The credit of a copy of a tile. -/
def NT : ℕ := RefSig.tileCredit S512x1024 .f32

abbrev OW (c : Dev nD) (k : ℕ) : sProp 𝕄 := iprop(∃ W, owes (c : Thread nD τ) (debt c k) W)

theorem Comm_owes (c : Dev nD) (k w n : ℕ) : (Comm X c k w n : sProp 𝕄) ⊢ iprop(OW c k ∗ (OW c k -∗ Comm X c k w n)) := by
  unfold Comm
  iintro ⟨HO, H⟩
  isplitl [HO]; · iexact HO
  iintro HO
  isplitl [HO]; · iexact HO
  iexact H

/-- A wait for a local copy in flight. -/
theorem wp_here {c : Dev nD} {k w n : ℕ} {α : Type} {Q : α → sProp 𝕄} {s0 s : DmaSem sig} (hs0 : s0 = s) (hk : kd (.dma s) = .other)
    {s' : Shape} {e' : EltTy} {sp sp' : Space} {src : Memref sig .tc sp' s' e'} {dst : Memref sig .tc sp S512x1024 .f32}
    {hs : src.view.WordExact} {hd : dst.view.WordExact} {kt : PUnit → Prog (TpuEff nD τ sig (Elt F) Λ₀ .tc) α} {D : sProp 𝕄}
    (hN : dst.view.dmaCredit = NT) :
    iprop(Ctx X K ∗ Comm X c k w n ∗ Flight EC (c : Thread nD τ) (.dma s) () NT D)
      ⊢ iprop((iprop(Comm X c k w n ∗ D ∗ semVal ((c : Thread nD τ), .dma s) 0) -∗ WP c (kt ⟨⟩) Q)
        -∗ WP c (.op (.waitDma2 s0 src dst hs hd) kt) Q) := by
  subst hs0
  unfold Ctx
  iintro ⟨⟨#HI, #Hlev⟩, HC, HF⟩ Hk
  ihave HC' := (Comm_owes X c k w n) $$ HC
  icases HC' with ⟨⟨%W, HO⟩, HC⟩
  iapply (wp_waitLocalO EC 𝒱₀ (c : Thread nD τ) none (dstw := dst) () hN (O := debt c k) (W := W)) $$ [HF HO]
  · isplitl [HF]; · iexact HF
    isplitl [HO]; · iexact HO
    iapply (mayWait_low c k s0 hk); iexact Hlev
  iintro ⟨HD, Hv, HO⟩
  iapply Hk
  isplitl [HC HO]
  · iapply HC; iexists _; iexact HO
  isplitl [HD]; · iexact HD
  iexact Hv

/-! ## The second operand's tiles -/

abbrev half (b : Fin 2) : PosShare TreeShare := if b = 0 then fullShare.left else fullShare.right

abbrev wPt (c : Dev nD) (b : Fin 2) (I : Finset S4096x1024.Idx) (f : S4096x1024.Idx → Elt F .f32) : sProp 𝕄 :=
  wM.view.loc (c : Thread nD τ) ↦[I]{half b} f
abbrev wbPt (c : Dev nD) (b : Fin 2) (f : S2x512x1024.Idx → Elt F .f32) : sProp 𝕄 :=
  wbM.view.loc (c : Thread nD τ) ↦[slotB b.val 0 512]{fullShare} f
abbrev acPt (c : Dev nD) (b : Fin 2) (f : S2x512x1024.Idx → Elt F .f32) : sProp 𝕄 :=
  acM.view.loc (c : Thread nD τ) ↦[slotB b.val 0 512]{fullShare} f
abbrev oPt (c : Dev nD) (I : Finset S4096x1024.Idx) (f : S4096x1024.Idx → Elt F .f32) : sProp 𝕄 :=
  oM.view.loc (c : Thread nD τ) ↦[I]{fullShare} f

/-- Slot `b` with no copy in flight: at anything; holding tile rows `l ..`; a copy in flight. -/
def WIdle (c : Dev nD) (b : Fin 2) : sProp 𝕄 :=
  iprop((∃ f, wbPt c b f) ∗ semVal ((c : Thread nD τ), .dma (wS b)) 0 ∗ wPt c b Finset.univ (Wt c))
def WGot (c : Dev nD) (b : Fin 2) (l : ℕ) : sProp 𝕄 :=
  iprop(wbPt c b (tileF (Wt c) l) ∗ semVal ((c : Thread nD τ), .dma (wS b)) 0 ∗ wPt c b Finset.univ (Wt c))
def WFly (c : Dev nD) (b : Fin 2) (l : ℕ) : sProp 𝕄 :=
  iprop(Flight EC (c : Thread nD τ) (.dma (wS b)) () NT (iprop(wbPt c b (tileF (Wt c) l) ∗ wPt c b (rowsW l 512) (Wt c)))
    ∗ wPt c b (Finset.univ \ rowsW l 512) (Wt c))

theorem WGot_idle (c : Dev nD) (b : Fin 2) (l : ℕ) : (WGot Wt c b l : sProp 𝕄) ⊢ WIdle Wt c b := by
  unfold WGot WIdle
  iintro ⟨H, Hv, Hw⟩
  isplitl [H]; · iexists _; iexact H
  isplitl [Hv]; · iexact Hv
  iexact Hw

theorem slotB_mem (b : ℕ) (hb : b < 2) (i : S2x512x1024.Idx) (hi : i ∈ slotB b 0 512) :
    i = (ix3 (⟨b, hb⟩ : Fin 2) (i 1 : Fin 512) (i 2 : Fin 1024) : S2x512x1024.Idx) := by
  rw [slotB, Finset.mem_filter] at hi
  funext a
  apply Fin.ext
  match a with
  | ⟨0, _⟩ => exact hi.2.1
  | ⟨1, _⟩ => rfl
  | ⟨2, _⟩ => rfl

theorem wbV_read (b : Fin 2) (h hs) (f : S2x512x1024.Idx → Elt F .f32) (x : S512x1024.Idx) :
    (wbV b.val h hs).view.read (Elt F) f x = f (ix3 b (x 0 : Fin 512) (x 1 : Fin 1024)) := by
  rw [View.read_apply, show (wbV b.val h hs).view.emb x = (ix3 b (x 0 : Fin 512) (x 1 : Fin 1024) : S2x512x1024.Idx) from slot_emb b.val h hs b.isLt x]
  rfl
theorem acV_read (b : Fin 2) (h hs) (f : S2x512x1024.Idx → Elt F .f32) (x : S512x1024.Idx) :
    (acV b.val h hs).view.read (Elt F) f x = f (ix3 b (x 0 : Fin 512) (x 1 : Fin 1024)) := by
  rw [View.read_apply, show (acV b.val h hs).view.emb x = (ix3 b (x 0 : Fin 512) (x 1 : Fin 1024) : S2x512x1024.Idx) from slot_emb b.val h hs b.isLt x]
  rfl
theorem wV_read (l : ℕ) (h) (f : S4096x1024.Idx → Elt F .f32) (x : S512x1024.Idx) (hx : l + (x 0).val < 4096) :
    (wV l h).view.read (Elt F) f x = f (ix2 (⟨l + (x 0).val, hx⟩ : Fin 4096) (x 1 : Fin 1024)) := by
  rw [View.read_apply, show (wV l h).view.emb x = (ix2 (⟨l + (x 0).val, hx⟩ : Fin 4096) (x 1 : Fin 1024) : S4096x1024.Idx) from rectW_emb l 512 h x hx]
  rfl
theorem oV_read (l : ℕ) (h) (f : S4096x1024.Idx → Elt F .f32) (x : S512x1024.Idx) (hx : l + (x 0).val < 4096) :
    (oV l h).view.read (Elt F) f x = f (ix2 (⟨l + (x 0).val, hx⟩ : Fin 4096) (x 1 : Fin 1024)) := by
  rw [View.read_apply, show (oV l h).view.emb x = (ix2 (⟨l + (x 0).val, hx⟩ : Fin 4096) (x 1 : Fin 1024) : S4096x1024.Idx) from rectW_emb l 512 h x hx]
  rfl

theorem rows_le (l : ℕ) (h : ∀ a, (![l, 0] : Fin 2 → ℕ) a + S512x1024.size a ≤ S4096x1024.size a) (r : Fin 512) : l + r.val < 4096 := by
  have a : l + 512 ≤ 4096 := h 0
  have := r.isLt
  omega

/-- A tile's copy issued. -/
theorem wp_tile {c : Dev nD} (b : Fin 2) {l b' : ℕ} (hb : b.val = b') {α : Type} {Q : α → sProp 𝕄} {s0 : DmaSem sig} (hs0 : s0 = wS b)
    {h1 : ∀ a, (![l, 0] : Fin 2 → ℕ) a + S512x1024.size a ≤ S4096x1024.size a}
    {h2 : ∀ a, (![b', 0, 0] : Fin 3 → ℕ) a + S1x512x1024.size a ≤ S2x512x1024.size a} {hq : S1x512x1024.Squeezes S512x1024}
    {hs : (wV l h1).view.WordExact} {hd : (wbV b' h2 hq).view.WordExact} {hsem} {kt : PUnit → Prog (TpuEff nD τ sig (Elt F) Λ₀ .tc) α} :
    (WIdle Wt c b : sProp 𝕄) ⊢ iprop((WFly Wt c b l -∗ WP c (kt ⟨⟩) Q)
        -∗ WP c (.op (.enqueueDma (wV l h1) (.here (wbV b' h2 hq)) (.dma s0) hs hd hsem) kt) Q) := by
  subst hs0 hb
  unfold WIdle WFly
  have hsub : rowsW l 512 ⊆ Finset.univ := Finset.subset_univ _
  have hset : (wbV b.val h2 hq).view.set = slotB b.val 0 512 := wbV_set _ _ _
  have key : ∀ fd, ∀ i ∈ slotB b.val 0 512,
      (wbV b.val h2 hq).view.write (Elt F) fd ((wV l h1).view.read (Elt F) (Wt c)) Finset.univ i = tileF (Wt c) l i := fun fd i hi =>
    write_eq_on (wbV b.val h2 hq).view fd (tileF (Wt c) l) _ (fun x => by
        have hx := rows_le l h1 (x 0)
        exact (wV_read l h1 (Wt c) x hx).trans ((tileF_at (Wt c) l b (x 0) (x 1) hx).symm.trans (wbV_read b h2 hq (tileF (Wt c) l) x).symm)) i (by rw [hset]; exact hi)
  iintro ⟨⟨%fd, Hd⟩, Hv, Hw⟩ Hk
  ihave Hw' := (pointsTo_split_subset hsub).1 $$ Hw
  icases Hw' with ⟨Hs, Hw⟩
  iapply (wp_dmaLocal EC 𝒱₀ (c : Thread nD τ) none (src := wV l h1) (dst := wbV b.val h2 hq) (sm := .dma (wS b)) (q := half b) (fs := Wt c) (fd := fd)
      (Sd := slotB b.val 0 512) () NT rfl (by decide) (by rw [hset])) $$ [Hs Hd Hv]
  · isplitl [Hs]; · rw [wV_set]; iexact Hs
    isplitl [Hd]; · iexact Hd
    iexact Hv
  have hback : ((wV l h1).view.loc (c : Thread nD τ) ↦[(wV l h1).view.set]{half b} Wt c : sProp 𝕄) ⊢ wPt c b (rowsW l 512) (Wt c) := by
    rw [wV_set]
  have hland : ((wbV b.val h2 hq).view.loc (c : Thread nD τ) ↦[slotB b.val 0 512]{fullShare}
      ((wbV b.val h2 hq).view.write (Elt F) fd ((wV l h1).view.read (Elt F) (Wt c)) Finset.univ) : sProp 𝕄) ⊢ wbPt c b (tileF (Wt c) l) :=
    Entails.of_eq (pointsTo_congr (key fd))
  iintro HF
  iapply Hk
  isplitl [HF]
  · iapply (Flight_mono EC (c : Thread nD τ) (BIClass.sep_mono hland hback))
    iexact HF
  · iexact Hw

/-- A tile's wait. -/
theorem wp_tiled {c : Dev nD} {k w n : ℕ} (b : Fin 2) {l : ℕ} {α : Type} {Q : α → sProp 𝕄} {s0 : DmaSem sig} (hs0 : s0 = wS b)
    {s' : Shape} {e' : EltTy} {sp' : Space} {src : Memref sig .tc sp' s' e'} {b' : ℕ}
    {h2 : ∀ a, (![b', 0, 0] : Fin 3 → ℕ) a + S1x512x1024.size a ≤ S2x512x1024.size a} {hq : S1x512x1024.Squeezes S512x1024}
    {hs : src.view.WordExact} {hd : (wbV b' h2 hq).view.WordExact} {kt : PUnit → Prog (TpuEff nD τ sig (Elt F) Λ₀ .tc) α} :
    iprop(Ctx X K ∗ Comm X c k w n ∗ WFly Wt c b l) ⊢ iprop((iprop(Comm X c k w n ∗ WGot Wt c b l) -∗ WP c (kt ⟨⟩) Q)
        -∗ WP c (.op (.waitDma2 s0 src (wbV b' h2 hq) hs hd) kt) Q) := by
  unfold WFly WGot
  iintro ⟨#HC, HM, HF, Hw⟩ Hk
  iapply (wp_here X K hs0 (kd_w b) (rfl : (wbV b' h2 hq).view.dmaCredit = NT)) $$ [HM HF]
  · isplitr; · iexact HC
    isplitl [HM]; · iexact HM
    iexact HF
  iintro ⟨HM, ⟨Hd, Hs⟩, Hv⟩
  iapply Hk
  isplitl [HM]; · iexact HM
  isplitl [Hd]; · iexact Hd
  isplitl [Hv]; · iexact Hv
  iapply (pointsTo_split_subset (Finset.subset_univ (rowsW l 512))).2
  isplitl [Hs]; · iexact Hs
  iexact Hw

/-! ## The result -/

def mm512 (s : Elt F .f32) (a : FVec F S512x4096 .fp8e5m2) (w : FVec F S4096x1024 .fp8e5m2) : FVec F S512x1024 .f32 :=
  mulf (matmul dot_S512x4096_S4096x1024_S512x1024_1_0_0_1_n_n none a w (constant S512x1024 .f32 0x00000000#32)) (broadcast S512x1024 s)
def mm192 (s : Elt F .f32) (a : FVec F S192x4096 .fp8e5m2) (w : FVec F S4096x1024 .fp8e5m2) : FVec F S192x1024 .f32 :=
  mulf (matmul dot_S192x4096_S4096x1024_S192x1024_1_0_0_1_n_n none a w (constant S192x1024 .f32 0x00000000#32)) (broadcast S192x1024 s)
def mm128 (s : Elt F .f32) (a : FVec F S128x4096 .fp8e5m2) (w : FVec F S4096x1024 .fp8e5m2) : FVec F S128x1024 .f32 :=
  mulf (matmul dot_S128x4096_S4096x1024_S128x1024_1_0_0_1_n_n none a w (constant S128x1024 .f32 0x00000000#32)) (broadcast S128x1024 s)

/-- Rows `l .. l + n` of a 512-row block, as an array of their own. -/
def rowsF {α : Type} (n l : ℕ) (a : S512x4096.Idx → α) : (Sr n).Idx → α :=
  fun x => a (ix2 (⟨(l + (x 0).val) % 512, Nat.mod_lt _ (by decide)⟩ : Fin 512) (x 1 : Fin 4096))

theorem rowsF_at {α : Type} (n l : ℕ) (a : S512x4096.Idx → α) (x : (Sr n).Idx) (hx : l + (x 0).val < 512) :
    rowsF n l a x = a (ix2 (⟨l + (x 0).val, hx⟩ : Fin 512) (x 1 : Fin 4096)) := by
  unfold rowsF
  congr 2
  exact Fin.ext (Nat.mod_eq_of_lt hx)

/-- Row `r`, column `q` of the block made from device `e`'s rows. -/
def blkF (c e : Dev nD) (r : Fin 512) (q : Fin 1024) : Elt F .f32 :=
  if e = xr 6 c then
    if h : r.val < 192 then mm192 (sc c) (rowsF 192 0 (x8F X e)) (w8F Wt c) (ix2 (⟨r.val, h⟩ : Fin 192) q)
    else if h' : r.val < 384 then mm192 (sc c) (rowsF 192 192 (x8F X e)) (w8F Wt c) (ix2 (⟨r.val - 192, by omega⟩ : Fin 192) q)
    else mm128 (sc c) (rowsF 128 384 (x8F X e)) (w8F Wt c) (ix2 (⟨r.val - 384, by have := r.isLt; omega⟩ : Fin 128) q)
  else mm512 (sc c) (x8F X e) (w8F Wt c) (ix2 r q)

def outF (c : Dev nD) : S4096x1024.Idx → Elt F .f32 := fun i =>
  blkF X Wt sc c ⟨(i 0).val / 512, Nat.div_lt_of_lt_mul (i 0).isLt⟩ ⟨(i 0).val % 512, Nat.mod_lt _ (by decide)⟩ (i 1)

theorem row_lt (e : Dev nD) (r : Fin 512) : 512 * e.val + r.val < 4096 := by have h1 : e.val < 8 := e.isLt; have h2 := r.isLt; omega

theorem outF_at (c e : Dev nD) (r : Fin 512) (q : Fin 1024) (m : ℕ) (hm : m = 512 * e.val + r.val) (h : m < 4096) :
    outF X Wt sc c (ix2 (⟨m, h⟩ : Fin 4096) q) = blkF X Wt sc c e r q := by
  subst hm
  have h2 := r.isLt
  show blkF X Wt sc c ⟨(512 * e.val + r.val) / 512, _⟩ ⟨(512 * e.val + r.val) % 512, _⟩ q = _
  congr 1
  · exact Fin.ext (by show (512 * e.val + r.val) / 512 = e.val; omega)
  · exact Fin.ext (by show (512 * e.val + r.val) % 512 = r.val; omega)

/-! ## The result's copies -/

/-- Slot `b` of the result's buffer, its rows below `k` those of block `e`. -/
def Acc (c : Dev nD) (b : Fin 2) (e : Dev nD) (k : ℕ) : sProp 𝕄 :=
  iprop(∃ f, ⌜∀ r : Fin 512, r.val < k → ∀ q, f (ix3 b r q) = blkF X Wt sc c e r q⌝ ∗ acPt c b f)
abbrev oSem (c : Dev nD) (b : Fin 2) : sProp 𝕄 := semVal ((c : Thread nD τ), .dma (oS b)) 0
/-- The copy of block `e` out of slot `b` in flight. -/
def OFly (c : Dev nD) (b : Fin 2) (e : Dev nD) : sProp 𝕄 :=
  Flight EC (c : Thread nD τ) (.dma (oS b)) () NT (iprop(oPt c (rowsW (512 * e.val) 512) (outF X Wt sc c) ∗ ∃ f, acPt c b f))

theorem Acc_any (c : Dev nD) (b : Fin 2) (e : Dev nD) (f : S2x512x1024.Idx → Elt F .f32) : acPt c b f ⊢ Acc X Wt sc c b e 0 := by
  unfold Acc
  iintro H
  iexists f
  isplitr; · ipureintro; intro r hr; exact absurd hr (Nat.not_lt_zero _)
  iexact H

theorem wp_out {c : Dev nD} (b : Fin 2) (e : Dev nD) {b' : ℕ} (hb : b.val = b') {off : Fin 2 → ℕ} (ho : off = ![512 * e.val, 0])
    {α : Type} {Q : α → sProp 𝕄} {s0 : DmaSem sig} (hs0 : s0 = oS b)
    {h1 : ∀ a, off a + S512x1024.size a ≤ S4096x1024.size a}
    {h2 : ∀ a, (![b', 0, 0] : Fin 3 → ℕ) a + S1x512x1024.size a ≤ S2x512x1024.size a} {hq : S1x512x1024.Squeezes S512x1024}
    {hs : (acV b' h2 hq).view.WordExact} {hd : (oM.slice (Rect.unit (s := S4096x1024) off S512x1024.size h1) (fun _ => rfl)).view.WordExact} {hsem}
    {kt : PUnit → Prog (TpuEff nD τ sig (Elt F) Λ₀ .tc) α} :
    iprop(Acc X Wt sc c b e 512 ∗ oSem c b ∗ ∃ f, oPt c (rowsW (512 * e.val) 512) f) ⊢ iprop((OFly X Wt sc c b e -∗ WP c (kt ⟨⟩) Q)
        -∗ WP c (.op (.enqueueDma (acV b' h2 hq) (.here (oM.slice (Rect.unit (s := S4096x1024) off S512x1024.size h1) (fun _ => rfl))) (.dma s0) hs hd hsem) kt) Q) := by
  subst hs0 hb ho
  unfold Acc OFly oSem
  have hset : (oV (512 * e.val) h1).view.set = rowsW (512 * e.val) 512 := oV_set _ _
  iintro ⟨⟨%f, %hf, Hs⟩, Hv, ⟨%fd, Hd⟩⟩ Hk
  have key : ∀ i ∈ rowsW (512 * e.val) 512,
      (oV (512 * e.val) h1).view.write (Elt F) fd ((acV b.val h2 hq).view.read (Elt F) f) Finset.univ i = outF X Wt sc c i := fun i hi =>
    write_eq_on (oV (512 * e.val) h1).view fd (outF X Wt sc c) _ (fun x => by
        have hx := rows_le (512 * e.val) h1 (x 0)
        refine (acV_read b h2 hq f x).trans ((hf (x 0) (x 0).isLt (x 1)).trans ?_)
        exact (outF_at X Wt sc c e (x 0) (x 1) _ rfl hx).symm.trans (oV_read (512 * e.val) h1 (outF X Wt sc c) x hx).symm) i (by rw [hset]; exact hi)
  iapply (wp_dmaLocal EC 𝒱₀ (c : Thread nD τ) none (src := acV b.val h2 hq) (dst := oV (512 * e.val) h1) (sm := .dma (oS b)) (q := fullShare) (fs := f) (fd := fd)
      (Sd := rowsW (512 * e.val) 512) () NT rfl (by decide) (by rw [hset])) $$ [Hs Hd Hv]
  · isplitl [Hs]; · rw [acV_set]; iexact Hs
    isplitl [Hd]; · iexact Hd
    iexact Hv
  have hback : ((acV b.val h2 hq).view.loc (c : Thread nD τ) ↦[(acV b.val h2 hq).view.set]{fullShare} f : sProp 𝕄) ⊢ iprop(∃ f, acPt c b f) := by
    rw [acV_set]; iintro H; iexists f; iexact H
  have hland : ((oV (512 * e.val) h1).view.loc (c : Thread nD τ) ↦[rowsW (512 * e.val) 512]{fullShare}
      ((oV (512 * e.val) h1).view.write (Elt F) fd ((acV b.val h2 hq).view.read (Elt F) f) Finset.univ) : sProp 𝕄)
      ⊢ oPt c (rowsW (512 * e.val) 512) (outF X Wt sc c) :=
    Entails.of_eq (pointsTo_congr key)
  iintro HF
  iapply Hk
  iapply (Flight_mono EC (c : Thread nD τ) (BIClass.sep_mono hland hback))
  iexact HF

theorem wp_outd {c : Dev nD} {k w n : ℕ} (b : Fin 2) (e : Dev nD) {α : Type} {Q : α → sProp 𝕄} {s0 : DmaSem sig} (hs0 : s0 = oS b)
    {s' : Shape} {e' : EltTy} {sp sp' : Space} {src : Memref sig .tc sp' s' e'} {dst : Memref sig .tc sp S512x1024 .f32} (hN : dst.view.dmaCredit = NT)
    {hs : src.view.WordExact} {hd : dst.view.WordExact} {kt : PUnit → Prog (TpuEff nD τ sig (Elt F) Λ₀ .tc) α} :
    iprop(Ctx X K ∗ Comm X c k w n ∗ OFly X Wt sc c b e)
      ⊢ iprop((iprop(Comm X c k w n ∗ oPt c (rowsW (512 * e.val) 512) (outF X Wt sc c) ∗ (∃ f, acPt c b f) ∗ oSem c b) -∗ WP c (kt ⟨⟩) Q)
        -∗ WP c (.op (.waitDma2 s0 src dst hs hd) kt) Q) := by
  unfold OFly oSem
  iintro ⟨#HC, HM, HF⟩ Hk
  iapply (wp_here X K hs0 (kd_o b) hN) $$ [HM HF]
  · isplitr; · iexact HC
    isplitl [HM]; · iexact HM
    iexact HF
  iintro ⟨HM, ⟨Hd, Hs⟩, Hv⟩
  iapply Hk
  isplitl [HM]; · iexact HM
  isplitl [Hd]; · iexact Hd
  isplitl [Hs]; · iexact Hs
  iexact Hv

end Cert.Ring

end
-- ==== Proof.Access.lean ====
/-
The loads and stores of the body, each at what it reads or leaves: the own block of `x` and its narrowed copy, the
second operand's tiles and its narrowed copy, the received slots, the result's buffer, the scale.
-/
module

public import proofs.«01_k».proof.Proof.Local

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight Flight_mono wp_dmaLocal wp_waitLocalO)

variable {F : FTy → Type} [FloatOps F]

local notation "𝕄" => MT nD τ sig Unit (Elt F) ℕ UU ℕ

variable (X : Dev nD → S512x4096.Idx → Elt F .f32) (Wt : Dev nD → S4096x1024.Idx → Elt F .f32) (sc : Dev nD → Elt F .f32)

variable (K : GSem nD τ sig → ℕ)

/-! ## The own block of `x` -/

abbrev xPt (c : Dev nD) : sProp 𝕄 := xM.view.loc (c : Thread nD τ) ↦[Finset.univ]{fullShare} X c
abbrev sPt (c : Dev nD) : sProp 𝕄 := sM.view.loc (c : Thread nD τ) ↦[Finset.univ]{fullShare} (fun _ => sc c)

theorem wp_load_x {c : Dev nD} {l : ℕ} {α : Type} {Q : α → sProp 𝕄}
    {h : ∀ a, (![l, 0] : Fin 2 → ℕ) a + S128x4096.size a ≤ S512x4096.size a} {hl} {kt : (S128x4096.Idx → Elt F .f32) → Prog (TpuEff nD τ sig (Elt F) Λ₀ .tc) α} :
    (xPt X c : sProp 𝕄) ⊢ iprop((∀ v : S128x4096.Idx → Elt F .f32, ⌜v = rowsF 128 l (X c)⌝ -∗ xPt X c -∗ WP c (kt v) Q)
      -∗ WP c (.op (.load xM (Rect.unit (s := S512x4096) ![l, 0] S128x4096.size h).toLoadRect hl) kt) Q) := by
  iintro H Hk
  iapply (wp_load_rect 𝒱₀ (c : Thread nD τ) none Set.univ (m := xM) (r := Rect.unit (s := S512x4096) ![l, 0] S128x4096.size h) (Finset.subset_univ _)) $$ H
  iintro H
  iapply Hk $$ [] H
  ipureintro
  funext x
  have hx : l + (x 0).val < 512 := by
    have a : (x 0).val < 128 := (x 0).isLt
    have b : l + 128 ≤ 512 := h 0
    omega
  refine Eq.trans ?_ (rowsF_at 128 l (X c) x hx).symm
  rw [View.read_apply, show (xM.access (Rect.unit (s := S512x4096) ![l, 0] S128x4096.size h)).emb x
    = (ix2 (⟨l + (x 0).val, hx⟩ : Fin 512) (x 1 : Fin 4096) : S512x4096.Idx) from rectX_emb l 128 h x hx]
  rfl

/-! ## The narrowed `x` -/

theorem pay_x (l : ℕ) (c : Dev nD) (v : S128x4096.Idx → Elt F .f32) (hv : v = rowsF 128 l (X c)) : k0_pay1 v = rowsF 128 l (x8F X c) := by
  subst hv
  funext x
  unfold k0_pay1
  rw [shapeCast_self, shapeCast_self]
  rfl

/-- Rows `l ..` of the narrowed `x`, at anything. -/
abbrev x8Any (c : Dev nD) (l : ℕ) : sProp 𝕄 := iprop(∃ f, x8Pt (F := F) c fullShare (rowsX l 128) f)

theorem x8acc_set (l : ℕ) (h : ∀ a, (![l, 0] : Fin 2 → ℕ) a + S128x4096.size a ≤ S512x4096.size a) :
    (x8M.access (Rect.unit (s := S512x4096) ![l, 0] S128x4096.size h)).set = rowsX l 128 := x8V_set l 128 h

theorem wp_load_x8_any {c : Dev nD} {l : ℕ} {α : Type} {Q : α → sProp 𝕄}
    {h : ∀ a, (![l, 0] : Fin 2 → ℕ) a + S128x4096.size a ≤ S512x4096.size a} {hl} {kt : (S128x4096.Idx → Elt F .fp8e5m2) → Prog (TpuEff nD τ sig (Elt F) Λ₀ .tc) α} :
    (x8Any c l : sProp 𝕄) ⊢ iprop((∀ v : S128x4096.Idx → Elt F .fp8e5m2, x8Any c l -∗ WP c (kt v) Q)
      -∗ WP c (.op (.load x8M (Rect.unit (s := S512x4096) ![l, 0] S128x4096.size h).toLoadRect hl) kt) Q) := by
  iintro ⟨%f, H⟩ Hk
  iapply (wp_load_rect 𝒱₀ (c : Thread nD τ) none Set.univ (m := x8M) (r := Rect.unit (s := S512x4096) ![l, 0] S128x4096.size h) (by rw [x8acc_set])) $$ H
  iintro H
  iapply Hk
  iexists f; iexact H

/-- The four shares of stored rows: one a direction, and one kept. -/
abbrev x8Own (c : Dev nD) (l : ℕ) : sProp 𝕄 :=
  iprop(x8Pt c (xsh 0) (rowsX l 128) (x8F X c) ∗ x8Pt c (xsh 1) (rowsX l 128) (x8F X c)
    ∗ x8Pt c (xsh 2) (rowsX l 128) (x8F X c) ∗ x8Pt c (xsh 3) (rowsX l 128) (x8F X c))

theorem x8_quarters (c : Dev nD) (I : Finset S512x4096.Idx) (f : S512x4096.Idx → Elt F .fp8e5m2) :
    (x8Pt c fullShare I f : sProp 𝕄) ⊣⊢ iprop(x8Pt c (xsh 0) I f ∗ x8Pt c (xsh 1) I f ∗ x8Pt c (xsh 2) I f ∗ x8Pt c (xsh 3) I f) := by
  have h1 : (x8Pt c fullShare I f : sProp 𝕄) ⊣⊢ iprop(x8Pt c fullShare.left I f ∗ x8Pt c fullShare.right I f) := pointsTo_share (PosShare.mem_left_op_right fullShare)
  have h2 : (x8Pt c fullShare.left I f : sProp 𝕄) ⊣⊢ iprop(x8Pt c (xsh 0) I f ∗ x8Pt c (xsh 1) I f) := pointsTo_share (PosShare.mem_left_op_right fullShare.left)
  have h3 : (x8Pt c fullShare.right I f : sProp 𝕄) ⊣⊢ iprop(x8Pt c (xsh 2) I f ∗ x8Pt c (xsh 3) I f) := pointsTo_share (PosShare.mem_left_op_right fullShare.right)
  constructor
  · iintro H
    ihave H := h1.1 $$ H
    icases H with ⟨Ha, Hb⟩
    ihave Ha := h2.1 $$ Ha
    ihave Hb := h3.1 $$ Hb
    icases Ha with ⟨H0, H1⟩
    icases Hb with ⟨H2, H3⟩
    isplitl [H0]; · iexact H0
    isplitl [H1]; · iexact H1
    isplitl [H2]; · iexact H2
    iexact H3
  · iintro ⟨H0, H1, H2, H3⟩
    iapply h1.2
    isplitl [H0 H1]
    · iapply h2.2
      isplitl [H0]; · iexact H0
      iexact H1
    · iapply h3.2
      isplitl [H2]; · iexact H2
      iexact H3

theorem wp_store_x8 {c : Dev nD} {l : ℕ} {α : Type} {Q : α → sProp 𝕄}
    {h : ∀ a, (![l, 0] : Fin 2 → ℕ) a + S128x4096.size a ≤ S512x4096.size a} {w : S128x4096.Idx → Elt F .fp8e5m2} {hx hm}
    {kt : PUnit → Prog (TpuEff nD τ sig (Elt F) Λ₀ .tc) α} (hw : w = rowsF 128 l (x8F X c)) :
    (x8Any c l : sProp 𝕄) ⊢ iprop((x8Own X c l -∗ WP c (kt ⟨⟩) Q)
      -∗ WP c (.op (.store x8M (Rect.unit (s := S512x4096) ![l, 0] S128x4096.size h) w Finset.univ hx hm) kt) Q) := by
  iintro ⟨%f, H⟩ Hk
  iapply (wp_store 𝒱₀ (c : Thread nD τ) none Set.univ (m := x8M) (r := Rect.unit (s := S512x4096) ![l, 0] S128x4096.size h) (S := rowsX l 128)
    (by rw [View.setOn_univ, x8acc_set])) $$ H
  have key : ∀ i ∈ rowsX l 128, (x8M.access (Rect.unit (s := S512x4096) ![l, 0] S128x4096.size h)).write (Elt F) f w Finset.univ i = x8F X c i := fun i hi =>
    write_eq_on (x8M.access (Rect.unit (s := S512x4096) ![l, 0] S128x4096.size h)) f (x8F X c) w (fun x => by
      have hx : l + (x 0).val < 512 := by
        have a : (x 0).val < 128 := (x 0).isLt
        have b : l + 128 ≤ 512 := h 0
        omega
      rw [hw]
      exact (rowsF_at 128 l (x8F X c) x hx).trans (x8V_read l 128 h (x8F X c) x hx).symm) i (by rw [x8acc_set]; exact hi)
  have hst : (x8M.view.loc (c : Thread nD τ) ↦[rowsX l 128]{fullShare}
      ((x8M.access (Rect.unit (s := S512x4096) ![l, 0] S128x4096.size h)).write (Elt F) f w Finset.univ) : sProp 𝕄) ⊢ x8Own X c l :=
    (Entails.of_eq (pointsTo_congr key)).trans (x8_quarters c (rowsX l 128) (x8F X c)).1
  iintro H
  iapply Hk
  iapply hst
  iexact H

/-- The kept quarter, whole. -/
abbrev x8Keep (c : Dev nD) : sProp 𝕄 := x8Pt c (xsh 3) Finset.univ (x8F X c)

theorem rowsX_cover : (Finset.univ : Finset (Fin 4)).biUnion (fun q => rowsX (128 * q.val) 128) = Finset.univ := by
  ext i
  simp only [Finset.mem_biUnion, Finset.mem_univ, true_and, rowsX, Finset.mem_filter, iff_true]
  have h : (i 0).val < 512 := (i 0).isLt
  exact ⟨⟨(i 0).val / 128, by omega⟩, by show 128 * ((i 0).val / 128) ≤ _; omega, by show _ < 128 * ((i 0).val / 128) + 128; omega⟩

theorem rowsX_apart (q q' : Fin 4) (h : q ≠ q') : Disjoint (rowsX (128 * q.val) 128) (rowsX (128 * q'.val) 128) := by
  rw [Finset.disjoint_left]
  intro i hi hj
  rw [rowsX, Finset.mem_filter] at hi hj
  exact h (Fin.ext (by omega))

theorem x8_rows (c : Dev nD) (q : PosShare TreeShare) (f : S512x4096.Idx → Elt F .fp8e5m2) :
    (x8Pt c q Finset.univ f : sProp 𝕄) = iprop(x8Pt c q (rowsX 0 128) f ∗ x8Pt c q (rowsX 128 128) f ∗ x8Pt c q (rowsX 256 128) f ∗ x8Pt c q (rowsX 384 128) f) := by
  rw [x8Pt, ← rowsX_cover, pointsTo_biUnion _ _ (fun a _ b _ h => rowsX_apart a b h),
    show (Finset.univ : Finset (Fin 4)) = insert 0 (insert 1 (insert 2 {3})) from by decide,
    BI.bigSep_insert (by decide), BI.bigSep_insert (by decide), BI.bigSep_insert (by decide), BI.bigSep_singleton]
  rfl

theorem wp_load_x8 {c : Dev nD} {α : Type} {Q : α → sProp 𝕄}
    {h : ∀ a, (![0, 0] : Fin 2 → ℕ) a + S512x4096.size a ≤ S512x4096.size a} {hl} {kt : (S512x4096.Idx → Elt F .fp8e5m2) → Prog (TpuEff nD τ sig (Elt F) Λ₀ .tc) α} :
    (x8Keep X c : sProp 𝕄) ⊢ iprop((x8Keep X c -∗ WP c (kt (x8F X c)) Q)
      -∗ WP c (.op (.load x8M (Rect.unit (s := S512x4096) ![0, 0] S512x4096.size h).toLoadRect hl) kt) Q) := by
  iintro H Hk
  iapply (wp_load_rect 𝒱₀ (c : Thread nD τ) none Set.univ (m := x8M) (r := Rect.unit (s := S512x4096) ![0, 0] S512x4096.size h) (Finset.subset_univ _)) $$ H
  have e : (x8M.access (Rect.unit (s := S512x4096) ![0, 0] S512x4096.size h)).read (Elt F) (x8F X c) = x8F X c := by
    funext x
    have hx : 0 + (x 0).val < 512 := by have a : (x 0).val < 512 := (x 0).isLt; omega
    rw [View.read_apply, show (x8M.access (Rect.unit (s := S512x4096) ![0, 0] S512x4096.size h)).emb x
      = (ix2 (⟨0 + (x 0).val, hx⟩ : Fin 512) (x 1 : Fin 4096) : S512x4096.Idx) from rectX_emb 0 512 h x hx]
    show x8F X c _ = x8F X c x
    congr 1
    funext a
    apply Fin.ext
    match a with
    | ⟨0, _⟩ => show 0 + (x 0).val = (x 0).val; omega
    | ⟨1, _⟩ => rfl
  rw [e]
  iintro H
  iapply Hk
  iexact H

/-! ## The second operand's tiles and its narrowed copy -/

theorem ix3_unit {n m : ℕ} (x : (⟨3, ![1, n, m]⟩ : Shape).Idx) (y : Fin 1) : x = ix3 y (x 1 : Fin n) (x 2 : Fin m) := by
  funext a
  apply Fin.ext
  have h0 : (x 0).val < 1 := (x 0).isLt
  have h1 := y.isLt
  match a with
  | ⟨0, _⟩ => show (x 0).val = y.val; omega
  | ⟨1, _⟩ => rfl
  | ⟨2, _⟩ => rfl

/-- Rows `l ..` of a 4096-row array, as a tile; that tile as a slot reads it. -/
def rowsG {α : Type} (l : ℕ) (f : S4096x1024.Idx → α) : S512x1024.Idx → α :=
  fun x => f (ix2 (⟨(l + (x 0).val) % 4096, Nat.mod_lt _ (by decide)⟩ : Fin 4096) (x 1 : Fin 1024))
def slotG {α : Type} (l : ℕ) (f : S4096x1024.Idx → α) : S1x512x1024.Idx → α :=
  fun x => f (ix2 (⟨(l + (x 1).val) % 4096, Nat.mod_lt _ (by decide)⟩ : Fin 4096) (x 2 : Fin 1024))

theorem wp_load_wb {c : Dev nD} (b : Fin 2) {l b' : ℕ} (hb : b.val = b') {α : Type} {Q : α → sProp 𝕄}
    {h : ∀ a, (![b', 0, 0] : Fin 3 → ℕ) a + S1x512x1024.size a ≤ S2x512x1024.size a} {hl} {kt : (S1x512x1024.Idx → Elt F .f32) → Prog (TpuEff nD τ sig (Elt F) Λ₀ .tc) α} :
    (WGot Wt c b l : sProp 𝕄) ⊢ iprop((∀ v : S1x512x1024.Idx → Elt F .f32, ⌜v = slotG l (Wt c)⌝ -∗ WGot Wt c b l -∗ WP c (kt v) Q)
      -∗ WP c (.op (.load wbM (Rect.unit (s := S2x512x1024) ![b', 0, 0] S1x512x1024.size h).toLoadRect hl) kt) Q) := by
  subst hb
  unfold WGot
  iintro ⟨H, Hr⟩ Hk
  iapply (wp_load_rect 𝒱₀ (c : Thread nD τ) none Set.univ (m := wbM) (r := Rect.unit (s := S2x512x1024) ![b.val, 0, 0] S1x512x1024.size h)
    (show (wbM.access (Rect.unit (s := S2x512x1024) ![b.val, 0, 0] S1x512x1024.size h)).set ⊆ slotB b.val 0 512 from
      (((View.set_slice_whole cc0_scratch2 _).trans (rectB_set b.val 0 512 h)).subset))) $$ H
  iintro H
  iapply Hk $$ [] [H Hr]
  · ipureintro
    funext x
    have hx : 0 + (x 1).val < 512 := by have a : (x 1).val < 512 := (x 1).isLt; omega
    rw [View.read_apply, show (wbM.access (Rect.unit (s := S2x512x1024) ![b.val, 0, 0] S1x512x1024.size h)).emb x
      = (ix3 b (⟨0 + (x 1).val, hx⟩ : Fin 512) (x 2 : Fin 1024) : S2x512x1024.Idx) from rectB_emb b.val 0 512 h x b.isLt hx]
    show Wt c _ = Wt c _
    congr 1
    funext a
    apply Fin.ext
    match a with
    | ⟨0, _⟩ => show (l + (0 + (x 1).val)) % 4096 = (l + (x 1).val) % 4096; rw [Nat.zero_add]
    | ⟨1, _⟩ => rfl
  · isplitl [H]; · iexact H
    iexact Hr

theorem pay_w (l : ℕ) (c : Dev nD) (v : S1x512x1024.Idx → Elt F .f32) (hv : v = slotG l (Wt c)) : k0_pay5 v = rowsG l (w8F Wt c) := by
  subst hv
  funext x
  unfold k0_pay5
  rw [shapeCast_self]
  have e : shapeCast S512x1024 (slotG l (Wt c)) shapeCasts_S1x512x1024_S512x1024 = rowsG l (Wt c) := by
    funext x
    have hx : x = (ix2 (x 0 : Fin 512) (x 1 : Fin 1024) : S512x1024.Idx) := eq_ix2 x
    rw [hx]
    exact shapeCast_1ab_ab_apply _ _ _ _
  rw [e]
  rfl

/-- The narrowed second operand, its first `k` rows there. -/
def W8 (c : Dev nD) (k : ℕ) : sProp 𝕄 :=
  iprop(∃ f : S4096x1024.Idx → Elt F .fp8e5m2, ⌜∀ i : S4096x1024.Idx, (i 0).val < k → f i = w8F Wt c i⌝ ∗ w8M.view.loc (c : Thread nD τ) ↦[Finset.univ]{fullShare} f)

theorem W8_any (c : Dev nD) (f : S4096x1024.Idx → Elt F .fp8e5m2) : (w8M.view.loc (c : Thread nD τ) ↦[Finset.univ]{fullShare} f : sProp 𝕄) ⊢ W8 Wt c 0 := by
  unfold W8
  iintro H
  iexists f
  isplitr; · ipureintro; intro i hi; exact absurd hi (Nat.not_lt_zero _)
  iexact H

theorem wp_load_w8_any {c : Dev nD} {k : ℕ} {r : Rect S4096x1024} {α : Type} {Q : α → sProp 𝕄} {hl} {kt : (r.shape.Idx → Elt F .fp8e5m2) → Prog (TpuEff nD τ sig (Elt F) Λ₀ .tc) α} :
    (W8 Wt c k : sProp 𝕄) ⊢ iprop((∀ v, W8 Wt c k -∗ WP c (kt v) Q) -∗ WP c (.op (.load w8M r.toLoadRect hl) kt) Q) := by
  unfold W8
  iintro ⟨%f, %hf, H⟩ Hk
  iapply (wp_load_rect 𝒱₀ (c : Thread nD τ) none Set.univ (m := w8M) (r := r) (Finset.subset_univ _)) $$ H
  iintro H
  iapply Hk
  iexists f
  isplitr; · ipureintro; exact hf
  iexact H

theorem wp_store_w8 {c : Dev nD} {l : ℕ} {α : Type} {Q : α → sProp 𝕄}
    {h : ∀ a, (![l, 0] : Fin 2 → ℕ) a + S512x1024.size a ≤ S4096x1024.size a} {w : S512x1024.Idx → Elt F .fp8e5m2} {hx hm}
    {kt : PUnit → Prog (TpuEff nD τ sig (Elt F) Λ₀ .tc) α} (hw : w = rowsG l (w8F Wt c)) :
    (W8 Wt c l : sProp 𝕄) ⊢ iprop((W8 Wt c (l + 512) -∗ WP c (kt ⟨⟩) Q)
      -∗ WP c (.op (.store w8M (Rect.unit (s := S4096x1024) ![l, 0] S512x1024.size h) w Finset.univ hx hm) kt) Q) := by
  unfold W8
  have hset : (w8M.access (Rect.unit (s := S4096x1024) ![l, 0] S512x1024.size h)).set = rowsW l 512 :=
    (View.set_slice_whole cc0_scratch1 _).trans (rectW_set l 512 h)
  iintro ⟨%f, %hf, H⟩ Hk
  iapply (wp_store 𝒱₀ (c : Thread nD τ) none Set.univ (m := w8M) (r := Rect.unit (s := S4096x1024) ![l, 0] S512x1024.size h) (S := Finset.univ)
    (Finset.subset_univ _)) $$ H
  iintro H
  iapply Hk
  iexists _
  isplitr; swap; · iexact H
  ipureintro
  intro i hi
  by_cases hm' : i ∈ rowsW l 512
  · refine write_eq_on (w8M.access (Rect.unit (s := S4096x1024) ![l, 0] S512x1024.size h)) f (w8F Wt c) w (fun x => ?_) i (by rw [hset]; exact hm')
    have hx := rows_le l h (x 0)
    rw [hw, View.read_apply, show (w8M.access (Rect.unit (s := S4096x1024) ![l, 0] S512x1024.size h)).emb x
      = (ix2 (⟨l + (x 0).val, hx⟩ : Fin 4096) (x 1 : Fin 1024) : S4096x1024.Idx) from rectW_emb l 512 h x hx]
    show w8F Wt c _ = w8F Wt c _
    congr 1
    funext a
    apply Fin.ext
    match a with
    | ⟨0, _⟩ => exact Nat.mod_eq_of_lt hx
    | ⟨1, _⟩ => rfl
  · rw [View.write_of_not_mem _ _ _ (by rw [View.setOn_univ, hset]; exact hm')]
    refine hf i ?_
    rw [rowsW, Finset.mem_filter] at hm'
    by_contra hge
    exact hm' ⟨Finset.mem_univ _, by omega, hi⟩

theorem wp_load_w8 {c : Dev nD} {α : Type} {Q : α → sProp 𝕄}
    {h : ∀ a, (![0, 0] : Fin 2 → ℕ) a + S4096x1024.size a ≤ S4096x1024.size a} {hl} {kt : (S4096x1024.Idx → Elt F .fp8e5m2) → Prog (TpuEff nD τ sig (Elt F) Λ₀ .tc) α} :
    (W8 Wt c 4096 : sProp 𝕄) ⊢ iprop((W8 Wt c 4096 -∗ WP c (kt (w8F Wt c)) Q)
      -∗ WP c (.op (.load w8M (Rect.unit (s := S4096x1024) ![0, 0] S4096x1024.size h).toLoadRect hl) kt) Q) := by
  unfold W8
  iintro ⟨%f, %hf, H⟩ Hk
  iapply (wp_load_rect 𝒱₀ (c : Thread nD τ) none Set.univ (m := w8M) (r := Rect.unit (s := S4096x1024) ![0, 0] S4096x1024.size h) (Finset.subset_univ _)) $$ H
  have e : (w8M.access (Rect.unit (s := S4096x1024) ![0, 0] S4096x1024.size h)).read (Elt F) f = w8F Wt c := by
    funext x
    have h0 : (x 0).val < 4096 := (x 0).isLt
    have hx : 0 + (x 0).val < 4096 := by omega
    rw [View.read_apply, show (w8M.access (Rect.unit (s := S4096x1024) ![0, 0] S4096x1024.size h)).emb x
      = (ix2 (⟨0 + (x 0).val, hx⟩ : Fin 4096) (x 1 : Fin 1024) : S4096x1024.Idx) from rectW_emb 0 4096 h x hx]
    refine (hf _ hx).trans ?_
    congr 1
    funext a
    apply Fin.ext
    match a with
    | ⟨0, _⟩ => show 0 + (x 0).val = (x 0).val; omega
    | ⟨1, _⟩ => rfl
  rw [e]
  iintro H
  iapply Hk
  iexists f
  isplitr; · ipureintro; exact hf
  iexact H

/-! ## The slots received -/

/-- Rows `l ..` of a 512-row block, as a slot reads them. -/
def slabF {α : Type} (n l : ℕ) (a : S512x4096.Idx → α) : (S1r n).Idx → α :=
  fun x => a (ix2 (⟨(l + (x 1).val) % 512, Nat.mod_lt _ (by decide)⟩ : Fin 512) (x 2 : Fin 4096))

theorem slab_cast {α : Type} (n l : ℕ) (a : S512x4096.Idx → α) (h : (S1r n).ShapeCasts (Sr n)) : shapeCast (Sr n) (slabF n l a) h = rowsF n l a := by
  funext x
  have hx : x = (ix2 (x 0 : Fin n) (x 1 : Fin 4096) : (Sr n).Idx) := eq_ix2 x
  rw [hx]
  exact shapeCast_1ab_ab_apply _ _ _ _

theorem rowsF_whole {α : Type} (a : S512x4096.Idx → α) : rowsF 512 0 a = a := by
  funext x
  have h0 : (x 0).val < 512 := (x 0).isLt
  rw [rowsF_at 512 0 a x (by omega)]
  congr 1
  funext a
  apply Fin.ext
  match a with
  | ⟨0, _⟩ => show 0 + (x 0).val = (x 0).val; omega
  | ⟨1, _⟩ => rfl

theorem wp_load_slab {c : Dev nD} {k w n : ℕ} (j : Fin 7) (e : Dev nD) {j' l m : ℕ} (hj : j.val = j') (he : e = xr (mask j) c)
    (hc : (IsCut l ∧ IsCut (l + m)) ∧ ats j l m ⊆ gotA n) {α : Type} {Q : α → sProp 𝕄}
    {h : ∀ a, (![j', l, 0] : Fin 3 → ℕ) a + (S1r m).size a ≤ S7x512x4096.size a} {hl} {kt : ((S1r m).Idx → Elt F .fp8e5m2) → Prog (TpuEff nD τ sig (Elt F) Λ₀ .tc) α} :
    (Comm X c k w n : sProp 𝕄) ⊢ iprop((Comm X c k w n -∗ WP c (kt (slabF m l (x8F X e))) Q)
      -∗ WP c (.op (.load cmM (Rect.unit (s := S7x512x4096) ![j', l, 0] (S1r m).size h).toLoadRect hl) kt) Q) := by
  subst hj he
  have hset : (cmM.access (Rect.unit (s := S7x512x4096) ![j.val, l, 0] (S1r m).size h)).set = inA (ats j l m) :=
    (View.set_slice_whole cc0_scratch4 _).trans (rectC_set j l m hc.1.1 hc.1.2 h)
  have e : (cmM.access (Rect.unit (s := S7x512x4096) ![j.val, l, 0] (S1r m).size h)).read (Elt F) (commF X c) = slabF m l (x8F X (xr (mask j) c)) := by
    funext x
    have hx : l + (x 1).val < 512 := by
      have a : (x 1).val < m := (x 1).isLt
      have b : l + m ≤ 512 := h 1
      omega
    rw [View.read_apply, show (cmM.access (Rect.unit (s := S7x512x4096) ![j.val, l, 0] (S1r m).size h)).emb x
      = (ix3 j (⟨l + (x 1).val, hx⟩ : Fin 512) (x 2 : Fin 4096) : S7x512x4096.Idx) from rectC_emb j l m h x hx]
    show x8F X _ _ = x8F X _ _
    congr 1
    funext a
    apply Fin.ext
    match a with
    | ⟨0, _⟩ => exact (Nat.mod_eq_of_lt hx).symm
    | ⟨1, _⟩ => rfl
  unfold Comm
  iintro ⟨HO, Hout, Hin, HL, HR⟩ Hk
  iapply (wp_load_rect 𝒱₀ (c : Thread nD τ) none Set.univ (m := cmM) (r := Rect.unit (s := S7x512x4096) ![j.val, l, 0] (S1r m).size h) (S := inA (gotA n))
    (by rw [hset]; exact inA_subset hc.2)) $$ HR
  rw [e]
  iintro HR
  iapply Hk
  isplitl [HO]; · iexact HO
  isplitl [Hout]; · iexact Hout
  isplitl [Hin]; · iexact Hin
  isplitl [HL]; · iexact HL
  iexact HR

/-! ## The result's buffer -/

theorem wp_load_ac {c : Dev nD} {b : Fin 2} {f : S2x512x1024.Idx → Elt F .f32} {b' l m : ℕ} (hb : b.val = b') {α : Type} {Q : α → sProp 𝕄}
    {h : ∀ a, (![b', l, 0] : Fin 3 → ℕ) a + (![1, m, 1024] : Fin 3 → ℕ) a ≤ S2x512x1024.size a} {hl}
    {kt : ((⟨3, ![1, m, 1024]⟩ : Shape).Idx → Elt F .f32) → Prog (TpuEff nD τ sig (Elt F) Λ₀ .tc) α} :
    (acPt c b f : sProp 𝕄) ⊢ iprop((∀ v, acPt c b f -∗ WP c (kt v) Q)
      -∗ WP c (.op (.load acM (Rect.unit (s := S2x512x1024) ![b', l, 0] ![1, m, 1024] h).toLoadRect hl) kt) Q) := by
  subst hb
  have hlm : l + m ≤ 512 := h 1
  have hset : (acM.access (Rect.unit (s := S2x512x1024) ![b.val, l, 0] ![1, m, 1024] h)).set = slotB b.val l m :=
    (View.set_slice_whole cc0_scratch7 _).trans (rectB_set b.val l m h)
  iintro H Hk
  iapply (wp_load_rect 𝒱₀ (c : Thread nD τ) none Set.univ (m := acM) (r := Rect.unit (s := S2x512x1024) ![b.val, l, 0] ![1, m, 1024] h) (S := slotB b.val 0 512)
    (by
      rw [hset]
      intro i hi
      rw [slotB, Finset.mem_filter] at hi ⊢
      exact ⟨hi.1, hi.2.1, by omega, by omega⟩)) $$ H
  iintro H
  iapply Hk
  iexact H

theorem wp_load_acc {c e : Dev nD} {b : Fin 2} {k : ℕ} {b' l m : ℕ} (hb : b.val = b') {α : Type} {Q : α → sProp 𝕄}
    {h : ∀ a, (![b', l, 0] : Fin 3 → ℕ) a + (![1, m, 1024] : Fin 3 → ℕ) a ≤ S2x512x1024.size a} {hl}
    {kt : ((⟨3, ![1, m, 1024]⟩ : Shape).Idx → Elt F .f32) → Prog (TpuEff nD τ sig (Elt F) Λ₀ .tc) α} :
    (Acc X Wt sc c b e k : sProp 𝕄) ⊢ iprop((∀ v, Acc X Wt sc c b e k -∗ WP c (kt v) Q)
      -∗ WP c (.op (.load acM (Rect.unit (s := S2x512x1024) ![b', l, 0] ![1, m, 1024] h).toLoadRect hl) kt) Q) := by
  unfold Acc
  iintro ⟨%f, %hf, H⟩ Hk
  iapply (wp_load_ac hb) $$ H
  iintro %v H
  iapply Hk
  iexists f
  isplitr; · ipureintro; exact hf
  iexact H

theorem wp_store_acc {c e : Dev nD} {b : Fin 2} {b' l m : ℕ} (hb : b.val = b') {α : Type} {Q : α → sProp 𝕄}
    {h : ∀ a, (![b', l, 0] : Fin 3 → ℕ) a + (![1, m, 1024] : Fin 3 → ℕ) a ≤ S2x512x1024.size a} {w : (⟨3, ![1, m, 1024]⟩ : Shape).Idx → Elt F .f32} {hx hm}
    {kt : PUnit → Prog (TpuEff nD τ sig (Elt F) Λ₀ .tc) α}
    (hw : ∀ (r : Fin m) (hr : l + r.val < 512) (q : Fin 1024), w (ix3 (0 : Fin 1) r q) = blkF X Wt sc c e ⟨l + r.val, hr⟩ q) :
    (Acc X Wt sc c b e l : sProp 𝕄) ⊢ iprop((Acc X Wt sc c b e (l + m) -∗ WP c (kt ⟨⟩) Q)
      -∗ WP c (.op (.store acM (Rect.unit (s := S2x512x1024) ![b', l, 0] ![1, m, 1024] h) w Finset.univ hx hm) kt) Q) := by
  subst hb
  have hlm : l + m ≤ 512 := h 1
  have hset : (acM.access (Rect.unit (s := S2x512x1024) ![b.val, l, 0] ![1, m, 1024] h)).set = slotB b.val l m :=
    (View.set_slice_whole cc0_scratch7 _).trans (rectB_set b.val l m h)
  unfold Acc
  iintro ⟨%f, %hf, H⟩ Hk
  iapply (wp_store 𝒱₀ (c : Thread nD τ) none Set.univ (m := acM) (r := Rect.unit (s := S2x512x1024) ![b.val, l, 0] ![1, m, 1024] h) (S := slotB b.val 0 512)
    (by
      rw [View.setOn_univ, hset]
      intro i hi
      rw [slotB, Finset.mem_filter] at hi ⊢
      exact ⟨hi.1, hi.2.1, by omega, by omega⟩)) $$ H
  iintro H
  iapply Hk
  iexists _
  isplitr; swap; · iexact H
  ipureintro
  intro r hr q
  by_cases hl : l ≤ r.val
  · have hx' : l + (r.val - l) < 512 := by have := r.isLt; omega
    have em : (acM.access (Rect.unit (s := S2x512x1024) ![b.val, l, 0] ![1, m, 1024] h)).emb (ix3 (0 : Fin 1) (⟨r.val - l, by omega⟩ : Fin m) q)
        = (ix3 b r q : S2x512x1024.Idx) := by
      refine (rectB_emb b.val l m h (ix3 (0 : Fin 1) (⟨r.val - l, by omega⟩ : Fin m) q) b.isLt hx').trans ?_
      funext a
      apply Fin.ext
      match a with
      | ⟨0, _⟩ => rfl
      | ⟨1, _⟩ => show l + (r.val - l) = r.val; omega
      | ⟨2, _⟩ => rfl
    rw [← em, View.write_emb_of_mem _ _ (Finset.mem_univ _)]
    refine (hw ⟨r.val - l, by omega⟩ hx' q).trans ?_
    congr 1
    exact Fin.ext (by show l + (r.val - l) = r.val; omega)
  · rw [View.write_of_not_mem _ _ _ (by
      rw [View.setOn_univ, hset, slotB, Finset.mem_filter]
      rintro ⟨_, _, h1, _⟩
      exact hl h1)]
    exact hf r (by omega) q

/-! ## The scale -/

theorem wp_scale {c : Dev nD} {α : Type} {Q : α → sProp 𝕄} {h : ∀ a, (![0, 0] : Fin 2 → ℕ) a + S1x1.size a ≤ S1x1.size a} {hl}
    {kt : (S1x1.Idx → Elt F .f32) → Prog (TpuEff nD τ sig (Elt F) Λ₀ .tc) α} :
    (sPt sc c : sProp 𝕄) ⊢ iprop((sPt sc c -∗ WP c (kt fun _ => sc c) Q)
      -∗ WP c (.op (.load sM (Rect.unit (s := S1x1) ![0, 0] S1x1.size h).toLoadRect hl) kt) Q) := by
  iintro H Hk
  iapply (wp_load_rect 𝒱₀ (c : Thread nD τ) none Set.univ (m := sM) (r := Rect.unit (s := S1x1) ![0, 0] S1x1.size h) (Finset.subset_univ _)) $$ H
  iintro H
  iapply Hk
  iexact H

/-! ## The products -/

/-- A 512-row block's product, as the buffer's slot takes it. -/
theorem pay_whole (c e : Dev nD) (he : e ≠ xr 6 c) (w : S1x512x1024.Idx → Elt F .f32)
    (hw : w = shapeCast S1x512x1024 (mm512 (sc c) (x8F X e) (w8F Wt c)) shapeCasts_S512x1024_S1x512x1024)
    (r : Fin 512) (hr : 0 + r.val < 512) (q : Fin 1024) : w (ix3 (0 : Fin 1) r q) = blkF X Wt sc c e ⟨0 + r.val, hr⟩ q := by
  rw [hw, shapeCast_ab_1ab_apply]
  unfold blkF
  rw [if_neg he]
  congr 2
  exact Fin.ext (Nat.zero_add _).symm

theorem ne6 (j : Fin 8) (hj : j ≠ 6) (c : Dev nD) : xr j c ≠ xr 6 c := by revert hj; revert j c; decide

theorem pay_own (c e : Dev nD) : (k0_pay13 (sc c) (x8F X e) (w8F Wt c) : S1x512x1024.Idx → Elt F .f32)
    = shapeCast S1x512x1024 (mm512 (sc c) (x8F X e) (w8F Wt c)) shapeCasts_S512x1024_S1x512x1024 := rfl

theorem pay_cast (e : Dev nD) : (k0_pay16 (slabF 512 0 (x8F X e)) : S512x4096.Idx → Elt F .fp8e5m2) = x8F X e := by
  unfold k0_pay16
  exact (slab_cast 512 0 (x8F X e) _).trans (rowsF_whole _)

theorem pay_slab (c e : Dev nD) : (k0_pay14 (sc c) (slabF 512 0 (x8F X e)) (w8F Wt c) : S1x512x1024.Idx → Elt F .f32)
    = shapeCast S1x512x1024 (mm512 (sc c) (x8F X e) (w8F Wt c)) shapeCasts_S512x1024_S1x512x1024 := by
  unfold k0_pay14
  rw [show shapeCast S512x4096 (slabF 512 0 (x8F X e)) shapeCasts_S1x512x4096_S512x4096 = x8F X e from
    (slab_cast 512 0 (x8F X e) _).trans (rowsF_whole _)]
  rfl

theorem pay_first (c e : Dev nD) (he : e = xr 6 c) (r : Fin 192) (hr : 0 + r.val < 512) (q : Fin 1024) :
    (k0_pay22 (sc c) (slabF 192 0 (x8F X e)) (w8F Wt c) : S1x192x1024.Idx → Elt F .f32) (ix3 (0 : Fin 1) r q) = blkF X Wt sc c e ⟨0 + r.val, hr⟩ q := by
  unfold k0_pay22
  rw [show shapeCast S192x4096 (slabF 192 0 (x8F X e)) shapeCasts_S1x192x4096_S192x4096 = rowsF 192 0 (x8F X e) from slab_cast 192 0 (x8F X e) _]
  have h0 : 0 + r.val < 192 := by have := r.isLt; omega
  unfold blkF
  rw [if_pos he, dif_pos h0]
  refine (shapeCast_ab_1ab_apply _ _ _ _ _).trans ?_
  show mm192 _ _ _ _ = _
  congr 2
  exact Fin.ext (Nat.zero_add _).symm

theorem pay_second (c e : Dev nD) (he : e = xr 6 c) (r : Fin 192) (hr : 192 + r.val < 512) (q : Fin 1024) :
    (k0_pay23 (sc c) (slabF 192 192 (x8F X e)) (w8F Wt c) : S1x192x1024.Idx → Elt F .f32) (ix3 (0 : Fin 1) r q) = blkF X Wt sc c e ⟨192 + r.val, hr⟩ q := by
  unfold k0_pay23
  rw [show shapeCast S192x4096 (slabF 192 192 (x8F X e)) shapeCasts_S1x192x4096_S192x4096 = rowsF 192 192 (x8F X e) from slab_cast 192 192 (x8F X e) _]
  have h1 := r.isLt
  have h0 : ¬ 192 + r.val < 192 := by omega
  have h2 : 192 + r.val < 384 := by omega
  unfold blkF
  rw [if_pos he, dif_neg h0, dif_pos h2]
  refine (shapeCast_ab_1ab_apply _ _ _ _ _).trans ?_
  show mm192 _ _ _ _ = _
  congr 2
  exact Fin.ext (by show r.val = 192 + r.val - 192; omega)

theorem pay_third (c e : Dev nD) (he : e = xr 6 c) (r : Fin 128) (hr : 384 + r.val < 512) (q : Fin 1024) :
    (k0_pay24 (sc c) (slabF 128 384 (x8F X e)) (w8F Wt c) : S1x128x1024.Idx → Elt F .f32) (ix3 (0 : Fin 1) r q) = blkF X Wt sc c e ⟨384 + r.val, hr⟩ q := by
  unfold k0_pay24
  rw [show shapeCast S128x4096 (slabF 128 384 (x8F X e)) shapeCasts_S1x128x4096_S128x4096 = rowsF 128 384 (x8F X e) from slab_cast 128 384 (x8F X e) _]
  have h0 : ¬ 384 + r.val < 192 := by omega
  have h2 : ¬ 384 + r.val < 384 := by omega
  unfold blkF
  rw [if_pos he, dif_neg h0, dif_neg h2]
  refine (shapeCast_ab_1ab_apply _ _ _ _ _).trans ?_
  show mm128 _ _ _ _ = _
  congr 2
  exact Fin.ext (by show r.val = 384 + r.val - 384; omega)

end Cert.Ring

end
-- ==== Proof.Barrier.lean ====
/-
The barrier: a device hands each of its three neighbours the part of its communication buffer that neighbour's transfers
land in, and takes from each what its own transfers need.
-/
module

public import proofs.«01_k».proof.Proof.Access

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight Flight_mono wp_dmaLocal wp_waitLocalO)

variable {F : FTy → Type} [FloatOps F]

local notation "𝕄" => MT nD τ sig Unit (Elt F) ℕ UU ℕ

variable (X : Dev nD → S512x4096.Idx → Elt F .f32) (Wt : Dev nD → S4096x1024.Idx → Elt F .f32) (sc : Dev nD → Elt F .f32)

variable (K : GSem nD τ sig → ℕ)

theorem sep_out {I : Type} (s : Finset I) (Φ Ψ : I → sProp 𝕄) : bigSep s (fun i => iprop(Φ i ∗ Ψ i)) ⊢ iprop(bigSep s Φ ∗ bigSep s Ψ) := Entails.of_eq (BI.bigSep_sep s Φ Ψ)
theorem sep_in {I : Type} (s : Finset I) (Φ Ψ : I → sProp 𝕄) : iprop(bigSep s Φ ∗ bigSep s Ψ) ⊢ bigSep s (fun i => iprop(Φ i ∗ Ψ i)) := Entails.of_eq (BI.bigSep_sep s Φ Ψ).symm
theorem take_one {I : Type} [DecidableEq I] {s t : Finset I} {i : I} (h : s = insert i t) (hi : i ∉ t) (Φ : I → sProp 𝕄) :
    bigSep s Φ ⊢ iprop(Φ i ∗ bigSep t Φ) := by rw [h]; exact Entails.of_eq (BI.bigSep_insert hi)

theorem bigSep_fin_three (Φ : Fin 3 → sProp 𝕄) : bigSep Finset.univ Φ = iprop(Φ 0 ∗ Φ 1 ∗ Φ 2) := by
  rw [show (Finset.univ : Finset (Fin 3)) = insert 0 (insert 1 {2}) from by decide,
    BI.bigSep_insert (by decide), BI.bigSep_insert (by decide), BI.bigSep_singleton]
  rfl

/-- A separating conjunction over the transfers, by direction. -/
theorem by_dir (Φ : Fin 27 → sProp 𝕄) : bigSep Finset.univ Φ = bigSep Finset.univ fun i : Fin 3 => bigSep (Finset.univ.filter fun t : Fin 27 => dir t = i) Φ := by
  rw [bigSep_fin_three,
    show (Finset.univ : Finset (Fin 27)) = (Finset.univ.filter fun t : Fin 27 => dir t = 0) ∪ ((Finset.univ.filter fun t : Fin 27 => dir t = 1) ∪ (Finset.univ.filter fun t : Fin 27 => dir t = 2)) from by decide,
    BI.bigSep_union (by decide), BI.bigSep_union (by decide)]
  rfl

/-! ## What is still owed, and held, after `i` of the three signals -/

def debtB (c : Dev nD) (i : ℕ) : CellTallies nD τ sig Unit :=
  debt c 0 + ∑ u ∈ Finset.univ.filter (fun u : Fin 3 => i ≤ u.val), tallyAt (barCell (xr (pm u) c)) () 1

theorem debtB_step (c : Dev nD) (u : Fin 3) (i : ℕ) (h : u.val = i) : debtB c i = debtB c (i + 1) + tallyAt (barCell (xr (pm u) c)) () 1 := by
  subst h
  unfold debtB
  rw [add_assoc]
  congr 1
  have : Finset.univ.filter (fun v : Fin 3 => u.val ≤ v.val) = insert u (Finset.univ.filter (fun v : Fin 3 => u.val + 1 ≤ v.val)) := by revert u; decide
  rw [this, Finset.sum_insert (by simp), add_comm]

theorem debtB_end (c : Dev nD) : debtB c 3 = debt c 0 := by
  unfold debtB
  rw [show Finset.univ.filter (fun v : Fin 3 => 3 ≤ v.val) = ∅ from by decide, Finset.sum_empty, add_zero]

/-- What goes with the signal in direction `i`. -/
def barOut (c : Dev nD) (i : Fin 3) : sProp 𝕄 :=
  iprop(dutyTok ER (barCell (xr (pm i) c)) 0 i ∗ reached ER (barCell (xr (pm i) c)) 0
    ∗ bigSep (Finset.univ.filter fun t : Fin 27 => dir t = i) fun t => iprop((∃ f, cmPt (F := F) c fullShare (dstA t) f) ∗ reached ER (recvCell t c) 0))

/-- What is held for outgoing transfer `t` before the barrier. -/
def outPre (c : Dev nD) (t : Fin 27) : sProp 𝕄 :=
  iprop(dutyTok ER (sendCell t c) 0 0 ∗ dutyTok ER (recvCell t (peer t c)) 0 0 ∗ reached ER (sendCell t c) 0 ∗ atPos ER (sendCell t c) 0 ∅ 0)

def BarSt (c : Dev nD) (i : ℕ) : sProp 𝕄 :=
  iprop((∃ W, owes (c : Thread nD τ) (debtB c i) W)
    ∗ (bigSep (Finset.univ.filter fun u : Fin 3 => i ≤ u.val) fun u => barOut (F := F) c u)
    ∗ (cred (tallyAt (barCell c) () 3) ∗ atPos ER (barCell c) 0 ∅ 0)
    ∗ (bigSep Finset.univ fun t : Fin 27 => outPre (F := F) c t)
    ∗ (bigSep Finset.univ fun t : Fin 27 => inRes (F := F) t c 0))

theorem barOut_pay (c : Dev nD) (i : Fin 3) :
    (bigSep (Finset.univ.filter fun t : Fin 27 => dir t = i) fun t => iprop((∃ f, cmPt (F := F) c fullShare (dstA t) f) ∗ reached ER (recvCell t c) 0))
      = barPay (F := F) (xr (pm i) c) i := by
  unfold barPay
  refine BI.bigSep_congr fun t ht => ?_
  have e : peer t (xr (pm i) c) = c := by
    rw [← (Finset.mem_filter.1 ht).2]; exact peer_peer t c
  unfold Dst
  rw [e]

theorem wp_bar {c : Dev nD} {i : ℕ} (u : Fin 3) (hu : u.val = i) {α : Type} {Q : α → sProp 𝕄} {d : Dev nD} (hd : d = xr (pm u) c)
    {kt : PUnit → Prog (TpuEff nD τ sig (Elt F) Λ₀ .tc) α} :
    iprop(Ctx X K ∗ BarSt (F := F) c i) ⊢ iprop((BarSt c (i + 1) -∗ WP c (kt ⟨⟩) Q)
      -∗ WP c (.op (.semSignal (d, .tc) barS (1#32).toInt) kt) Q) := by
  subst hd
  have hfil : (Finset.univ.filter fun v : Fin 3 => i ≤ v.val) = insert u (Finset.univ.filter fun v : Fin 3 => i + 1 ≤ v.val) := by
    subst hu; revert u; decide
  unfold BarSt Ctx
  rw [show (1#32).toInt = ((1 : ℕ) : ℤ) from rfl]
  iintro ⟨⟨#HI, #Hlev⟩, ⟨%W, HO⟩, Hbb, Hr⟩ Hk
  ihave Hbb := (take_one hfil (by simp [hu]) (fun v => barOut (F := F) c v)) $$ Hbb
  icases Hbb with ⟨Hb, Hbs⟩
  unfold barOut
  icases Hb with ⟨Ht, #Hre, Hp⟩
  ihave Hp := (Entails.of_eq (barOut_pay (F := F) c u)) $$ Hp
  ihave Hp := (Entails.of_eq (payload_bar X (xr (pm u) c) u).symm) $$ Hp
  ihave #Hi := (Inv_bar X K (xr (pm u) c)) $$ HI
  iapply (Rounds.wp_signal 𝒱₀ ER (Rd X) (c : Thread nD τ) none (dst := (xr (pm u) c : Thread nD τ)) (sem := barS) (r := 0) (d := u) (κ := K (barCell (xr (pm u) c)))
    (by rw [duties_bar]; exact Finset.mem_univ _) (amount_bar X _ u) () (debtB c (i + 1)) (debtB_step c u i hu) (W := W)) $$ [HO Ht Hp]
  · isplitr; · iexact Hi
    isplitl [HO]; · iexact HO
    isplitl [Ht]; · iexact Ht
    isplitl [Hp]; · iexact Hp
    iexact Hre
  iintro HO
  iapply Hk
  isplitl [HO]; · iexists W; iexact HO
  isplitl [Hbs]; · iexact Hbs
  iexact Hr

/-- Before the first transfer: each cell's own resources and where the transfer lands. -/
theorem out_start (c : Dev nD) : iprop((bigSep Finset.univ fun t : Fin 27 => outPre (F := F) c t) ∗ bigSep Finset.univ fun t : Fin 27 => Dst (F := F) t c)
    ⊢ bigSep Finset.univ fun t : Fin 27 => outRes X t c 0 0 := by
  refine (sep_in _ _ _).trans ?_
  refine BI.bigSep_mono fun t _ => ?_
  show iprop(outPre c t ∗ Dst t c) ⊢ outRes X t c 0 0
  unfold outPre outRes
  rw [if_neg (Nat.not_lt_zero _)]
  show iprop(_ ∗ Dst t c) ⊢ (iprop(_ ∗ _ ∗ _ ∗ _ ∗ Dst t c) : sProp 𝕄)
  iintro ⟨⟨H1, H2, H3, H4⟩, H5⟩
  isplitl [H1]; · iexact H1
  isplitl [H2]; · iexact H2
  isplitl [H3]; · iexact H3
  isplitl [H4]; · iexact H4
  iexact H5

theorem pay_all (c : Dev nD) : (bigSep Finset.univ fun i : Fin 3 => barPay (F := F) c i) ⊢ bigSep Finset.univ fun t : Fin 27 => Dst (F := F) t c := by
  rw [by_dir (fun t => Dst (F := F) t c)]
  exact Entails.refl _

theorem gotA_zero : gotA 0 = ∅ := by decide

theorem wp_barrier {c : Dev nD} {α : Type} {Q : α → sProp 𝕄} {kt : PUnit → Prog (TpuEff nD τ sig (Elt F) Λ₀ .tc) α} :
    iprop(Ctx X K ∗ BarSt (F := F) c 3) ⊢ iprop((iprop(Comm X c 0 0 0 ∗ semVal (barCell c) 0) -∗ WP c (kt ⟨⟩) Q)
      -∗ WP c (.op (.semWait barS (3#32).toInt) kt) Q) := by
  unfold BarSt Ctx Comm
  rw [debtB_end, show (3#32).toInt = ((3 : ℕ) : ℤ) from rfl, gotA_zero]
  iintro ⟨⟨#HI, #Hlev⟩, ⟨%W, HO⟩, -, ⟨Hc, Hat⟩, Hout, Hin⟩ Hk
  ihave #Hi := (Inv_bar X K c) $$ HI
  iapply (Rounds.wp_wait_rest_token 𝒱₀ ER (Rd X) (c : Thread nD τ) none (κ := K (barCell c))
      (wpE_semWait_eq 𝒱₀ (c : Thread nD τ) none Set.univ) (Set.mem_univ _) () (O := debt c 0) (W := W) (R := 0) (m := 0) (T := ∅)
      ((Nat.zero_add _).trans (expect_bar X c).symm)) $$ [Hc HO Hat]
  · isplitr; · iexact Hi
    isplitl [Hc]; · iexact Hc
    isplitl [HO]; · iexact HO
    isplitr
    · iapply (mayWait_debt c 0 (.reg barS) (by intro t _; revert t; decide)); iexact Hlev
    iexact Hat
  iintro ⟨HO, Hat, -, Hpay⟩
  ihave Hp := (Entails.of_eq (rest_bar X c)) $$ Hpay
  ihave Hp := (pay_all (F := F) c) $$ Hp
  imod (close X (K (barCell c)) (barCell c)) $$ [Hat] with Hv
  · isplitr; · iexact Hi
    iexact Hat
  iapply Hk
  isplitr [Hv]; swap; · iexact Hv
  isplitl [HO]; · iexists _; iexact HO
  isplitl [Hout Hp]
  · iapply (out_start X c)
    isplitl [Hout]; · iexact Hout
    iexact Hp
  isplitl [Hin]; · iexact Hin
  have he : ∀ q, (iprop(emp) : sProp 𝕄) ⊢ cmPt c q ∅ (commF X c) := fun q => by
    unfold cmPt; rw [inA_empty, pointsTo_empty]
  rw [Finset.empty_sdiff]
  isplitr
  · iapply (he _); iempintro
  · iapply (he _); iempintro

end Cert.Ring

end
-- ==== Proof.Body1.lean ====
/-
The body up to the last transfer of the device's own rows.
-/
module

public import proofs.«01_k».proof.Proof.Barrier

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight Flight_mono wp_dmaLocal wp_waitLocalO)

variable {F : FTy → Type} [FloatOps F]

local notation "𝕄" => MT nD τ sig Unit (Elt F) ℕ UU ℕ

variable (X : Dev nD → S512x4096.Idx → Elt F .f32) (Wt : Dev nD → S4096x1024.Idx → Elt F .f32) (sc : Dev nD → Elt F .f32)

variable (K : GSem nD τ sig → ℕ)

/-! ## Where a transfer goes -/

theorem dev1 (c : Dev nD) : (⟨k0_dev1 c, k0_dev1_lt c⟩ : Dev nD) = xr (pm 0) c := by revert c; decide
theorem dev2 (c : Dev nD) : (⟨k0_dev2 c, k0_dev2_lt c⟩ : Dev nD) = xr (pm 1) c := by revert c; decide
theorem dev3 (c : Dev nD) : (⟨k0_dev3 c, k0_dev3_lt c⟩ : Dev nD) = xr (pm 2) c := by revert c; decide
theorem dev4 (c : Dev nD) : (⟨k0_dev4 c, k0_dev4_lt c⟩ : Dev nD) = peer 0 c := by revert c; decide
theorem dev5 (c : Dev nD) : (⟨k0_dev5 c, k0_dev5_lt c⟩ : Dev nD) = peer 4 c := by revert c; decide
theorem dev6 (c : Dev nD) : (⟨k0_dev6 c, k0_dev6_lt c⟩ : Dev nD) = peer 8 c := by revert c; decide
theorem dev7 (c : Dev nD) : (⟨k0_dev7 c, k0_dev7_lt c⟩ : Dev nD) = peer 1 c := by revert c; decide
theorem dev8 (c : Dev nD) : (⟨k0_dev8 c, k0_dev8_lt c⟩ : Dev nD) = peer 5 c := by revert c; decide
theorem dev9 (c : Dev nD) : (⟨k0_dev9 c, k0_dev9_lt c⟩ : Dev nD) = peer 9 c := by revert c; decide
theorem dev10 (c : Dev nD) : (⟨k0_dev10 c, k0_dev10_lt c⟩ : Dev nD) = peer 2 c := by revert c; decide
theorem dev11 (c : Dev nD) : (⟨k0_dev11 c, k0_dev11_lt c⟩ : Dev nD) = peer 6 c := by revert c; decide
theorem dev12 (c : Dev nD) : (⟨k0_dev12 c, k0_dev12_lt c⟩ : Dev nD) = peer 10 c := by revert c; decide
theorem dev13 (c : Dev nD) : (⟨k0_dev13 c, k0_dev13_lt c⟩ : Dev nD) = peer 3 c := by revert c; decide
theorem dev14 (c : Dev nD) : (⟨k0_dev14 c, k0_dev14_lt c⟩ : Dev nD) = peer 7 c := by revert c; decide
theorem dev15 (c : Dev nD) : (⟨k0_dev15 c, k0_dev15_lt c⟩ : Dev nD) = peer 11 c := by revert c; decide
theorem dev16 (c : Dev nD) : (⟨k0_dev16 c, k0_dev16_lt c⟩ : Dev nD) = peer 12 c := by revert c; decide
theorem dev17 (c : Dev nD) : (⟨k0_dev17 c, k0_dev17_lt c⟩ : Dev nD) = peer 16 c := by revert c; decide
theorem dev18 (c : Dev nD) : (⟨k0_dev18 c, k0_dev18_lt c⟩ : Dev nD) = peer 20 c := by revert c; decide
theorem dev19 (c : Dev nD) : (⟨k0_dev19 c, k0_dev19_lt c⟩ : Dev nD) = peer 13 c := by revert c; decide
theorem dev20 (c : Dev nD) : (⟨k0_dev20 c, k0_dev20_lt c⟩ : Dev nD) = peer 17 c := by revert c; decide
theorem dev21 (c : Dev nD) : (⟨k0_dev21 c, k0_dev21_lt c⟩ : Dev nD) = peer 21 c := by revert c; decide
theorem dev22 (c : Dev nD) : (⟨k0_dev22 c, k0_dev22_lt c⟩ : Dev nD) = peer 14 c := by revert c; decide
theorem dev23 (c : Dev nD) : (⟨k0_dev23 c, k0_dev23_lt c⟩ : Dev nD) = peer 18 c := by revert c; decide
theorem dev24 (c : Dev nD) : (⟨k0_dev24 c, k0_dev24_lt c⟩ : Dev nD) = peer 22 c := by revert c; decide
theorem dev25 (c : Dev nD) : (⟨k0_dev25 c, k0_dev25_lt c⟩ : Dev nD) = peer 15 c := by revert c; decide
theorem dev26 (c : Dev nD) : (⟨k0_dev26 c, k0_dev26_lt c⟩ : Dev nD) = peer 19 c := by revert c; decide
theorem dev27 (c : Dev nD) : (⟨k0_dev27 c, k0_dev27_lt c⟩ : Dev nD) = peer 23 c := by revert c; decide
theorem dev28 (c : Dev nD) : (⟨k0_dev28 c, k0_dev28_lt c⟩ : Dev nD) = peer 24 c := by revert c; decide
theorem dev29 (c : Dev nD) : (⟨k0_dev29 c, k0_dev29_lt c⟩ : Dev nD) = peer 25 c := by revert c; decide
theorem dev30 (c : Dev nD) : (⟨k0_dev30 c, k0_dev30_lt c⟩ : Dev nD) = peer 26 c := by revert c; decide

theorem wp_done {α : Type} {c : Dev nD} {a : α} {Q : α → sProp 𝕄} : Q a ⊢ WP (F := F) c (.ret a) Q := by
  unfold WP
  rw [wp_ret]
  exact fupd_intro (PROP := sProp 𝕄)

theorem curry2 {A B D : sProp 𝕄} (h : iprop(A ∗ B) ⊢ D) : A ⊢ iprop(B -∗ D) := by
  iintro HA HB
  iapply h
  isplitl [HA]; · iexact HA
  iexact HB
theorem curry3 {A B C D : sProp 𝕄} (h : iprop(A ∗ B ∗ C) ⊢ D) : A ⊢ iprop(B -∗ C -∗ D) := by
  iintro HA HB HC
  iapply h
  isplitl [HA]; · iexact HA
  isplitl [HB]; · iexact HB
  iexact HC

/-- A first-stage transfer, with what it takes as premises one after the other. -/
theorem send_x {c : Dev nD} (k : ℕ) (t : Fin 27) (j l m : ℕ) (q : PosShare TreeShare) {n : ℕ} {α : Type} {Q : α → sProp 𝕄}
    {d : Dev nD} (hdev : d = peer t c) {s1 s2 : DmaSem sig} (hs1 : s1 = sendS t) (hs2 : s2 = recvS t)
    (e : (dj t).val = j ∧ lo t = l ∧ nr t = m ∧ dsh t = q)
    {h1 : ∀ a, (![l, 0] : Fin 2 → ℕ) a + (Sr m).size a ≤ S512x4096.size a}
    {h2 : ∀ a, (![j, l, 0] : Fin 3 → ℕ) a + (S1r m).size a ≤ S7x512x4096.size a} {hq : (S1r m).Squeezes (Sr m)}
    {hs : (x8V l m h1).view.WordExact} {hd : (cmV j l m h2 hq).view.WordExact} {hsc} {hsem}
    {kt : PUnit → Prog (TpuEff nD τ sig (Elt F) Λ₀ .tc) α} (h : pos t = k ∧ t.val < 12) :
    (Ctx X K : sProp 𝕄) ⊢ iprop(Comm X c k 0 n -∗ x8Pt c q (rowsX l m) (x8F X c) -∗ (Comm X c (k + 1) 0 n -∗ WP c (kt ⟨⟩) Q)
      -∗ WP c (.op (.enqueueDma (x8V l m h1) (.remote (Dev.tc d) (cmV j l m h2 hq) (.dma s1) hsc) (.dma s2) hs hd hsem) kt) Q) :=
  by
  obtain ⟨e1, e2, e3, e4⟩ := e
  subst e4
  exact curry3 (wp_send_x X K t hdev hs1 hs2 e1 e2 e3 h)

/-! ## The barrier -/

theorem part1 (c : Dev nD) {Q : (Σ' (d0 : Dev nD) (v2 : BitVec 32) (v6 : BitVec 32) (v8 : BitVec 32) (v9 : BitVec 32) (v13 : BitVec 32) (v14 : BitVec 32)
      (v18 : BitVec 32) (v23 : BitVec 32) (v24 : Sems sig S_) (v29 : BitVec 32), BitVec 32) → sProp 𝕄} :
    iprop(Ctx X K ∗ BarSt (F := F) c 0)
      ⊢ iprop((∀ v2 : BitVec 32, ∀ v6 : BitVec 32, ∀ v8 : BitVec 32, ∀ v9 : BitVec 32, ∀ v13 : BitVec 32, ∀ v14 : BitVec 32, ∀ v18 : BitVec 32, ∀ v23 : BitVec 32, ∀ v29 : BitVec 32, BarSt c 2 -∗ Q ⟨c, v2, v6, v8, v9, v13, v14, v18, v23, SemArray.scalar (sig.barrier 0 rfl), v29, 0#32⟩)
      -∗ WP c (k0_part1 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8) Q) := by
  simp only [k0_part1_eq_skeleton]
  unfold k0_part1_skel
  simp only [semSignalWord, Prog.lift, Prog.bind_op, Prog.bind_ret, Prog.pure_eq_ret, wp_deviceId]
  iintro ⟨#HC, HB⟩ Hk
  iapply (wp_bar X K 0 rfl (dev1 c)) $$ [HB]
  · isplitr; · iexact HC
    iexact HB
  iintro HB
  iapply (wp_bar X K 1 rfl (dev2 c)) $$ [HB]
  · isplitr; · iexact HC
    iexact HB
  iintro HB
  iapply wp_done
  iapply Hk
  iexact HB

theorem part2 (c : Dev nD) (v6 v8 v9 v29 c0 : BitVec 32) {Q : (Σ' (v55 : BitVec 32), BitVec 32) → sProp 𝕄} :
    iprop(Ctx X K ∗ BarSt (F := F) c 2 ∗ xPt X c ∗ x8Any c 0)
      ⊢ iprop((∀ v55 : BitVec 32, iprop(Comm X c 2 0 0 ∗ semVal (barCell c) 0 ∗ xPt X c ∗ x8Pt c (xsh 2) (rowsX 0 128) (x8F X c) ∗ x8Pt c (xsh 3) (rowsX 0 128) (x8F X c))
          -∗ Q ⟨v55, 0#32⟩)
      -∗ WP c (k0_part2 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v6 v8 v9 (SemArray.scalar (sig.barrier 0 rfl)) v29 c0) Q) := by
  simp only [k0_part2_eq_skeleton]
  unfold k0_part2_skel
  simp only [semSignalWord, semWaitWord, Prog.lift, Prog.bind_op, Prog.bind_ret, Prog.pure_eq_ret]
  iintro ⟨#HC, HB, Hx, H8⟩ Hk
  iapply (wp_bar X K 2 rfl (dev3 c)) $$ [HB]
  · isplitr; · iexact HC
    iexact HB
  iintro HB
  iapply (wp_barrier X K) $$ [HB]
  · isplitr; · iexact HC
    iexact HB
  iintro ⟨HM, Hbar⟩
  iapply (wp_load_x X) $$ Hx
  iintro %v %hv Hx
  iapply wp_load_x8_any $$ H8
  iintro %v' H8
  iapply (wp_store_x8 X (pay_x X 0 c v hv)) $$ H8
  iintro ⟨H0, H1, H2, H3⟩
  iapply (wp_send_x X K (k := 0) 0 (dev4 c) (sem_send 0 0 rfl _ _) (sem_recv 0 0 rfl _ _) rfl rfl rfl (by decide)) $$ [HM H0]
  · isplitr; · iexact HC
    isplitl [HM]; · iexact HM
    iexact H0
  iintro HM
  iapply (wp_send_x X K (k := 1) 4 (dev5 c) (sem_send 4 4 rfl _ _) (sem_recv 4 4 rfl _ _) rfl rfl rfl (by decide)) $$ [HM H1]
  · isplitr; · iexact HC
    isplitl [HM]; · iexact HM
    iexact H1
  iintro HM
  iapply wp_done
  iapply Hk
  isplitl [HM]; · iexact HM
  isplitl [Hbar]; · iexact Hbar
  isplitl [Hx]; · iexact Hx
  isplitl [H2]; · iexact H2
  iexact H3

theorem part3 (c : Dev nD) (v6 v8 v55 c0 : BitVec 32) {Q : PUnit → sProp 𝕄} :
    iprop(Ctx X K ∗ Comm X c 2 0 0 ∗ xPt X c ∗ x8Pt c (xsh 2) (rowsX 0 128) (x8F X c) ∗ x8Any c 128)
      ⊢ iprop((iprop(Comm X c 4 0 0 ∗ xPt X c ∗ x8Pt c (xsh 1) (rowsX 128 128) (x8F X c) ∗ x8Pt c (xsh 2) (rowsX 128 128) (x8F X c) ∗ x8Pt c (xsh 3) (rowsX 128 128) (x8F X c))
          -∗ Q ⟨⟩)
      -∗ WP c (k0_part3 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v6 v8 v55 c0) Q) := by
  simp only [k0_part3_eq_skeleton]
  unfold k0_part3_skel
  simp only [Prog.lift, Prog.bind_op, Prog.bind_ret, Prog.pure_eq_ret]
  iintro ⟨#HC, HM, Hx, H2, H8⟩ Hk
  iapply (send_x X K 2 8 2 0 128 (xsh 2) (dev6 c) (sem_send 8 8 rfl _ _) (sem_recv 8 8 rfl _ _) ⟨rfl, rfl, rfl, rfl⟩ (by decide)) $$ HC HM H2
  iintro HM
  iapply (wp_load_x X) $$ Hx
  iintro %v %hv Hx
  iapply wp_load_x8_any $$ H8
  iintro %v' H8
  iapply (wp_store_x8 X (pay_x X 128 c v hv)) $$ H8
  iintro ⟨H0, H1, H2, H3⟩
  iapply (send_x X K 3 1 0 128 128 (xsh 0) (dev7 c) (sem_send 1 1 rfl _ _) (sem_recv 1 1 rfl _ _) ⟨rfl, rfl, rfl, rfl⟩ (by decide)) $$ HC HM H0
  iintro HM
  iapply wp_done
  iapply Hk $$ [HM Hx H1 H2 H3]
  iframe

theorem part4 (c : Dev nD) (v6 v8 v9 : BitVec 32) {Q : PUnit → sProp 𝕄} :
    iprop(Ctx X K ∗ Comm X c 4 0 0 ∗ xPt X c ∗ x8Pt c (xsh 1) (rowsX 128 128) (x8F X c) ∗ x8Pt c (xsh 2) (rowsX 128 128) (x8F X c) ∗ x8Any c 256)
      ⊢ iprop((iprop(Comm X c 7 0 0 ∗ xPt X c ∗ x8Pt c (xsh 1) (rowsX 256 128) (x8F X c) ∗ x8Pt c (xsh 2) (rowsX 256 128) (x8F X c) ∗ x8Pt c (xsh 3) (rowsX 256 128) (x8F X c))
          -∗ Q ⟨⟩)
      -∗ WP c (k0_part4 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v6 v8 v9) Q) := by
  simp only [k0_part4_eq_skeleton]
  unfold k0_part4_skel
  simp only [Prog.lift, Prog.bind_op, Prog.bind_ret, Prog.pure_eq_ret]
  iintro ⟨#HC, HM, Hx, H1, H2, H8⟩ Hk
  iapply (send_x X K 4 5 1 128 128 (xsh 1) (dev8 c) (sem_send 5 5 rfl _ _) (sem_recv 5 5 rfl _ _) ⟨rfl, rfl, rfl, rfl⟩ (by decide)) $$ HC HM H1
  iintro HM
  iapply (send_x X K 5 9 2 128 128 (xsh 2) (dev9 c) (sem_send 9 9 rfl _ _) (sem_recv 9 9 rfl _ _) ⟨rfl, rfl, rfl, rfl⟩ (by decide)) $$ HC HM H2
  iintro HM
  iapply (wp_load_x X) $$ Hx
  iintro %v %hv Hx
  iapply wp_load_x8_any $$ H8
  iintro %v' H8
  iapply (wp_store_x8 X (pay_x X 256 c v hv)) $$ H8
  iintro ⟨H0, H1, H2, H3⟩
  iapply (send_x X K 6 2 0 256 128 (xsh 0) (dev10 c) (sem_send 2 2 rfl _ _) (sem_recv 2 2 rfl _ _) ⟨rfl, rfl, rfl, rfl⟩ (by decide)) $$ HC HM H0
  iintro HM
  iapply wp_done
  iapply Hk $$ [HM Hx H1 H2 H3]
  iframe

theorem part5 (c : Dev nD) (v6 v9 : BitVec 32) {Q : PUnit → sProp 𝕄} :
    iprop(Ctx X K ∗ Comm X c 7 0 0 ∗ xPt X c ∗ x8Pt c (xsh 1) (rowsX 256 128) (x8F X c) ∗ x8Pt c (xsh 2) (rowsX 256 128) (x8F X c) ∗ x8Any c 384)
      ⊢ iprop((iprop(Comm X c 10 0 0 ∗ xPt X c ∗ x8Pt c (xsh 1) (rowsX 384 128) (x8F X c) ∗ x8Pt c (xsh 2) (rowsX 384 128) (x8F X c) ∗ x8Pt c (xsh 3) (rowsX 384 128) (x8F X c))
          -∗ Q ⟨⟩)
      -∗ WP c (k0_part5 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v6 v9) Q) := by
  simp only [k0_part5_eq_skeleton]
  unfold k0_part5_skel
  simp only [Prog.lift, Prog.bind_op, Prog.bind_ret, Prog.pure_eq_ret]
  iintro ⟨#HC, HM, Hx, H1, H2, H8⟩ Hk
  iapply (send_x X K 7 6 1 256 128 (xsh 1) (dev11 c) (sem_send 6 6 rfl _ _) (sem_recv 6 6 rfl _ _) ⟨rfl, rfl, rfl, rfl⟩ (by decide)) $$ HC HM H1
  iintro HM
  iapply (send_x X K 8 10 2 256 128 (xsh 2) (dev12 c) (sem_send 10 10 rfl _ _) (sem_recv 10 10 rfl _ _) ⟨rfl, rfl, rfl, rfl⟩ (by decide)) $$ HC HM H2
  iintro HM
  iapply (wp_load_x X) $$ Hx
  iintro %v %hv Hx
  iapply wp_load_x8_any $$ H8
  iintro %v' H8
  iapply (wp_store_x8 X (pay_x X 384 c v hv)) $$ H8
  iintro ⟨H0, H1, H2, H3⟩
  iapply (send_x X K 9 3 0 384 128 (xsh 0) (dev13 c) (sem_send 3 3 rfl _ _) (sem_recv 3 3 rfl _ _) ⟨rfl, rfl, rfl, rfl⟩ (by decide)) $$ HC HM H0
  iintro HM
  iapply wp_done
  iapply Hk $$ [HM Hx H1 H2 H3]
  iframe

theorem part6 (c : Dev nD) (v8 v9 : BitVec 32) {Q : PUnit → sProp 𝕄} :
    iprop(Ctx X K ∗ Comm X c 10 0 0 ∗ x8Pt c (xsh 1) (rowsX 384 128) (x8F X c) ∗ x8Pt c (xsh 2) (rowsX 384 128) (x8F X c) ∗ WIdle Wt c 0)
      ⊢ iprop((iprop(Comm X c 12 0 0 ∗ WFly Wt c 0 0) -∗ Q ⟨⟩)
      -∗ WP c (k0_part6 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v8 v9) Q) := by
  simp only [k0_part6_eq_skeleton]
  unfold k0_part6_skel
  simp only [Prog.lift, Prog.bind_op, Prog.bind_ret, Prog.pure_eq_ret]
  iintro ⟨#HC, HM, H1, H2, HW⟩ Hk
  iapply (send_x X K 10 7 1 384 128 (xsh 1) (dev14 c) (sem_send 7 7 rfl _ _) (sem_recv 7 7 rfl _ _) ⟨rfl, rfl, rfl, rfl⟩ (by decide)) $$ HC HM H1
  iintro HM
  iapply (send_x X K 11 11 2 384 128 (xsh 2) (dev15 c) (sem_send 11 11 rfl _ _) (sem_recv 11 11 rfl _ _) ⟨rfl, rfl, rfl, rfl⟩ (by decide)) $$ HC HM H2
  iintro HM
  iapply (wp_tile Wt 0 rfl (sem_w 0 0 rfl _ _)) $$ HW
  iintro HW
  iapply wp_done
  iapply Hk $$ [HM HW]
  iframe

end Cert.Ring

end
-- ==== Proof.Body2.lean ====
/-
The body from the second operand's tiles to the device's own block of the result.
-/
module

public import proofs.«01_k».proof.Proof.Body1

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight Flight_mono wp_dmaLocal wp_waitLocalO)

variable {F : FTy → Type} [FloatOps F]

local notation "𝕄" => MT nD τ sig Unit (Elt F) ℕ UU ℕ

variable (X : Dev nD → S512x4096.Idx → Elt F .f32) (Wt : Dev nD → S4096x1024.Idx → Elt F .f32) (sc : Dev nD → Elt F .f32)

variable (K : GSem nD τ sig → ℕ)

/-! ## Steps with what they take as premises one after the other -/

theorem tiled {c : Dev nD} {k w n : ℕ} (b : Fin 2) {l : ℕ} {α : Type} {Q : α → sProp 𝕄} {s0 : DmaSem sig} (hs0 : s0 = wS b)
    {s' : Shape} {e' : EltTy} {sp' : Space} {src : Memref sig .tc sp' s' e'} {b' : ℕ}
    {h2 : ∀ a, (![b', 0, 0] : Fin 3 → ℕ) a + S1x512x1024.size a ≤ S2x512x1024.size a} {hq : S1x512x1024.Squeezes S512x1024}
    {hs : src.view.WordExact} {hd : (wbV b' h2 hq).view.WordExact} {kt : PUnit → Prog (TpuEff nD τ sig (Elt F) Λ₀ .tc) α} :
    (Ctx X K : sProp 𝕄) ⊢ iprop(Comm X c k w n -∗ WFly Wt c b l -∗ (iprop(Comm X c k w n ∗ WGot Wt c b l) -∗ WP c (kt ⟨⟩) Q)
        -∗ WP c (.op (.waitDma2 s0 src (wbV b' h2 hq) hs hd) kt) Q) :=
  curry3 (wp_tiled X Wt K b hs0)

/-- The next tile's copy into a slot whose last tile is done with. -/
theorem tile_again {c : Dev nD} (b : Fin 2) (l0 : ℕ) {l b' : ℕ} (hb : b.val = b') {α : Type} {Q : α → sProp 𝕄} {s0 : DmaSem sig} (hs0 : s0 = wS b)
    {h1 : ∀ a, (![l, 0] : Fin 2 → ℕ) a + S512x1024.size a ≤ S4096x1024.size a}
    {h2 : ∀ a, (![b', 0, 0] : Fin 3 → ℕ) a + S1x512x1024.size a ≤ S2x512x1024.size a} {hq : S1x512x1024.Squeezes S512x1024}
    {hs : (wV l h1).view.WordExact} {hd : (wbV b' h2 hq).view.WordExact} {hsem} {kt : PUnit → Prog (TpuEff nD τ sig (Elt F) Λ₀ .tc) α} :
    (WGot Wt c b l0 : sProp 𝕄) ⊢ iprop((WFly Wt c b l -∗ WP c (kt ⟨⟩) Q)
        -∗ WP c (.op (.enqueueDma (wV l h1) (.here (wbV b' h2 hq)) (.dma s0) hs hd hsem) kt) Q) :=
  (WGot_idle Wt c b l0).trans (wp_tile Wt b hb hs0)

/-! ## The second operand, a tile at a time -/

theorem part7 (c : Dev nD) {Q : FVec F S512x1024 .fp8e5m2 → sProp 𝕄} :
    iprop(Ctx X K ∗ Comm X c 12 0 0 ∗ WFly Wt c 0 0 ∗ WIdle Wt c 1 ∗ W8 Wt c 0)
      ⊢ iprop((∀ v : FVec F S512x1024 .fp8e5m2, ⌜v = rowsG 512 (w8F Wt c)⌝ -∗ iprop(Comm X c 12 0 0 ∗ WFly Wt c 0 1024 ∗ WGot Wt c 1 512 ∗ W8 Wt c 512) -∗ Q v)
      -∗ WP c (k0_part7 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8) Q) := by
  simp only [k0_part7_eq_skeleton]
  unfold k0_part7_skel
  simp only [Prog.lift, Prog.bind_op, Prog.bind_ret, Prog.pure_eq_ret]
  iintro ⟨#HC, HM, H0, H1, H8⟩ Hk
  iapply (wp_tile Wt 1 rfl (sem_w 1 1 rfl _ _)) $$ H1
  iintro H1
  iapply (tiled X Wt K 0 (sem_w 0 0 rfl _ _)) $$ HC HM H0
  iintro ⟨HM, H0⟩
  iapply (wp_load_wb Wt 0 rfl) $$ H0
  iintro %v %hv H0
  iapply (wp_load_w8_any Wt) $$ H8
  iintro %u H8
  iapply (wp_store_w8 Wt (pay_w Wt 0 c v hv)) $$ H8
  iintro H8
  iapply (tile_again Wt 0 0 rfl (sem_w 0 0 rfl _ _)) $$ H0
  iintro H0
  iapply (tiled X Wt K 1 (sem_w 1 1 rfl _ _)) $$ HC HM H1
  iintro ⟨HM, H1⟩
  iapply (wp_load_wb Wt 1 rfl) $$ H1
  iintro %v' %hv' H1
  iapply (wp_load_w8_any Wt) $$ H8
  iintro %u' H8
  iapply wp_done
  iapply Hk $$ [] [HM H0 H1 H8]
  · ipureintro; exact pay_w Wt 512 c v' hv'
  iframe

theorem part8 (c : Dev nD) (v : FVec F S512x1024 .fp8e5m2) (hv : v = rowsG 512 (w8F Wt c)) {Q : PUnit → sProp 𝕄} :
    iprop(Ctx X K ∗ Comm X c 12 0 0 ∗ WFly Wt c 0 1024 ∗ WGot Wt c 1 512 ∗ W8 Wt c 512)
      ⊢ iprop((iprop(Comm X c 12 0 0 ∗ WFly Wt c 0 2048 ∗ WFly Wt c 1 1536 ∗ W8 Wt c 1536) -∗ Q ⟨⟩)
      -∗ WP c (k0_part8 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 v) Q) := by
  simp only [k0_part8_eq_skeleton]
  unfold k0_part8_skel
  simp only [Prog.lift, Prog.bind_op, Prog.bind_ret, Prog.pure_eq_ret]
  iintro ⟨#HC, HM, H0, H1, H8⟩ Hk
  iapply (wp_store_w8 Wt hv) $$ H8
  iintro H8
  iapply (tile_again Wt 1 512 rfl (sem_w 1 1 rfl _ _)) $$ H1
  iintro H1
  iapply (tiled X Wt K 0 (sem_w 0 0 rfl _ _)) $$ HC HM H0
  iintro ⟨HM, H0⟩
  iapply (wp_load_wb Wt 0 rfl) $$ H0
  iintro %v' %hv' H0
  iapply (wp_load_w8_any Wt) $$ H8
  iintro %u H8
  iapply (wp_store_w8 Wt (pay_w Wt 1024 c v' hv')) $$ H8
  iintro H8
  iapply (tile_again Wt 0 1024 rfl (sem_w 0 0 rfl _ _)) $$ H0
  iintro H0
  iapply wp_done
  iapply Hk $$ [HM H0 H1 H8]
  iframe

theorem part9 (c : Dev nD) {Q : PUnit → sProp 𝕄} :
    iprop(Ctx X K ∗ Comm X c 12 0 0 ∗ WFly Wt c 0 2048 ∗ WFly Wt c 1 1536 ∗ W8 Wt c 1536)
      ⊢ iprop((iprop(Comm X c 12 0 0 ∗ WGot Wt c 0 2048 ∗ WFly Wt c 1 2560 ∗ W8 Wt c 2560) -∗ Q ⟨⟩)
      -∗ WP c (k0_part9 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8) Q) := by
  simp only [k0_part9_eq_skeleton]
  unfold k0_part9_skel
  simp only [Prog.lift, Prog.bind_op, Prog.bind_ret, Prog.pure_eq_ret]
  iintro ⟨#HC, HM, H0, H1, H8⟩ Hk
  iapply (tiled X Wt K 1 (sem_w 1 1 rfl _ _)) $$ HC HM H1
  iintro ⟨HM, H1⟩
  iapply (wp_load_wb Wt 1 rfl) $$ H1
  iintro %v %hv H1
  iapply (wp_load_w8_any Wt) $$ H8
  iintro %u H8
  iapply (wp_store_w8 Wt (pay_w Wt 1536 c v hv)) $$ H8
  iintro H8
  iapply (tile_again Wt 1 1536 rfl (sem_w 1 1 rfl _ _)) $$ H1
  iintro H1
  iapply (tiled X Wt K 0 (sem_w 0 0 rfl _ _)) $$ HC HM H0
  iintro ⟨HM, H0⟩
  iapply (wp_load_wb Wt 0 rfl) $$ H0
  iintro %v' %hv' H0
  iapply (wp_load_w8_any Wt) $$ H8
  iintro %u' H8
  iapply (wp_store_w8 Wt (pay_w Wt 2048 c v' hv')) $$ H8
  iintro H8
  iapply wp_done
  iapply Hk $$ [HM H0 H1 H8]
  iframe

theorem part10 (c : Dev nD) {Q : FVec F S512x1024 .fp8e5m2 → sProp 𝕄} :
    iprop(Ctx X K ∗ Comm X c 12 0 0 ∗ WGot Wt c 0 2048 ∗ WFly Wt c 1 2560 ∗ W8 Wt c 2560)
      ⊢ iprop((∀ v : FVec F S512x1024 .fp8e5m2, ⌜v = rowsG 3072 (w8F Wt c)⌝ -∗ iprop(Comm X c 12 0 0 ∗ WGot Wt c 0 3072 ∗ WFly Wt c 1 3584 ∗ W8 Wt c 3072) -∗ Q v)
      -∗ WP c (k0_part10 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8) Q) := by
  simp only [k0_part10_eq_skeleton]
  unfold k0_part10_skel
  simp only [Prog.lift, Prog.bind_op, Prog.bind_ret, Prog.pure_eq_ret]
  iintro ⟨#HC, HM, H0, H1, H8⟩ Hk
  iapply (tile_again Wt 0 2048 rfl (sem_w 0 0 rfl _ _)) $$ H0
  iintro H0
  iapply (tiled X Wt K 1 (sem_w 1 1 rfl _ _)) $$ HC HM H1
  iintro ⟨HM, H1⟩
  iapply (wp_load_wb Wt 1 rfl) $$ H1
  iintro %v %hv H1
  iapply (wp_load_w8_any Wt) $$ H8
  iintro %u H8
  iapply (wp_store_w8 Wt (pay_w Wt 2560 c v hv)) $$ H8
  iintro H8
  iapply (tile_again Wt 1 2560 rfl (sem_w 1 1 rfl _ _)) $$ H1
  iintro H1
  iapply (tiled X Wt K 0 (sem_w 0 0 rfl _ _)) $$ HC HM H0
  iintro ⟨HM, H0⟩
  iapply (wp_load_wb Wt 0 rfl) $$ H0
  iintro %v' %hv' H0
  iapply (wp_load_w8_any Wt) $$ H8
  iintro %u' H8
  iapply wp_done
  iapply Hk $$ [] [HM H0 H1 H8]
  · ipureintro; exact pay_w Wt 3072 c v' hv'
  iframe

/-! ## The device's own block -/

theorem off_own (c : Dev nD) : k0_off1 c = ![512 * c.val, 0] := by revert c; decide
theorem own_ne (c : Dev nD) : c ≠ xr 6 c := by revert c; decide

theorem part11 (c : Dev nD) (v2 : BitVec 32) (v : FVec F S512x1024 .fp8e5m2) (hv : v = rowsG 3072 (w8F Wt c)) {Q : Elt F .f32 → sProp 𝕄} :
    iprop(Ctx X K ∗ Comm X c 12 0 0 ∗ WFly Wt c 1 3584 ∗ W8 Wt c 3072 ∗ sPt sc c ∗ x8Keep X c ∗ (Acc X Wt sc c 0 c 0 ∗ oSem c 0 ∗ ∃ f, oPt c (rowsW (512 * c.val) 512) f))
      ⊢ iprop((iprop(Comm X c 12 0 0 ∗ WGot Wt c 1 3584 ∗ W8 Wt c 4096 ∗ sPt sc c ∗ x8Keep X c ∗ OFly X Wt sc c 0 c) -∗ Q (sc c))
      -∗ WP c (k0_part11 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v2 v) Q) := by
  simp only [k0_part11_eq_skeleton]
  unfold k0_part11_skel
  simp only [smemLoad, smemLoadElt, Prog.lift, Prog.bind_op, Prog.bind_ret, Prog.pure_eq_ret]
  iintro ⟨#HC, HM, H1, H8, Hs, Hx, HA, Ho⟩ Hk
  iapply (wp_store_w8 Wt hv) $$ H8
  iintro H8
  iapply (tiled X Wt K 1 (sem_w 1 1 rfl _ _)) $$ HC HM H1
  iintro ⟨HM, H1⟩
  iapply (wp_load_wb Wt 1 rfl) $$ H1
  iintro %v' %hv' H1
  iapply (wp_load_w8_any Wt) $$ H8
  iintro %u H8
  iapply (wp_store_w8 Wt (pay_w Wt 3584 c v' hv')) $$ H8
  iintro H8
  iapply (wp_scale sc) $$ Hs
  iintro Hs
  iapply (wp_load_x8 X) $$ Hx
  iintro Hx
  iapply (wp_load_w8 Wt) $$ H8
  iintro H8
  iapply (wp_load_acc X Wt sc rfl) $$ HA
  iintro %u' HA
  iapply (wp_store_acc X Wt sc rfl (pay_whole X Wt sc c c (own_ne c) _ (pay_own X Wt sc c c))) $$ HA
  iintro HA
  iapply (wp_out X Wt sc 0 c rfl (off_own c) (sem_o 0 0 rfl _ _)) $$ [HA Ho]
  · iframe
  iintro HO
  iapply wp_done
  iapply Hk $$ [HM H1 H8 Hs Hx HO]
  iframe

end Cert.Ring

end
-- ==== Proof.Body3.lean ====
/-
The body through the second stage of transfers and the first three blocks received.
-/
module

public import proofs.«01_k».proof.Proof.Body2

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight Flight_mono wp_dmaLocal wp_waitLocalO)

variable {F : FTy → Type} [FloatOps F]

local notation "𝕄" => MT nD τ sig Unit (Elt F) ℕ UU ℕ

variable (X : Dev nD → S512x4096.Idx → Elt F .f32) (Wt : Dev nD → S4096x1024.Idx → Elt F .f32) (sc : Dev nD → Elt F .f32)

variable (K : GSem nD τ sig → ℕ)

/-! ## Steps with what they take as premises one after the other -/

theorem recv {c : Dev nD} (k n : ℕ) (t : Fin 27) (m : ℕ) {α : Type} {Q : α → sProp 𝕄}
    {sS : DmaSem sig} (hsem : sS = recvS t) (hn : nr t = m) {s' : Shape} {e' : EltTy} {sp' : Space} {src : Memref sig .tc sp' s' e'} {dst : Memref sig .tc .vmem (Sr m) .fp8e5m2}
    {hs : src.view.WordExact} {hd : dst.view.WordExact} {kt : PUnit → Prog (TpuEff nD τ sig (Elt F) Λ₀ .tc) α}
    (h : wpos t = n ∧ Below t k) (hl : Disjoint (lentA k) (dstA t)) :
    (Ctx X K : sProp 𝕄) ⊢ iprop(Comm X c k 0 n -∗ (Comm X c k 0 (n + 1) -∗ WP c (kt ⟨⟩) Q) -∗ WP c (.op (.waitDma2 sS src dst hs hd) kt) Q) :=
  curry2 (wp_recv X K t hsem hn h hl)

theorem send_c {c : Dev nD} (k n : ℕ) (t : Fin 27) (i j l m : ℕ) {α : Type} {Q : α → sProp 𝕄}
    {d : Dev nD} (hdev : d = peer t c) {s1 s2 : DmaSem sig} (hs1 : s1 = sendS t) (hs2 : s2 = recvS t)
    (e : (sj t).val = i ∧ (dj t).val = j ∧ lo t = l ∧ nr t = m)
    {h1 : ∀ a, (![i, l, 0] : Fin 3 → ℕ) a + (S1r m).size a ≤ S7x512x4096.size a} {hq1 : (S1r m).Squeezes (Sr m)}
    {h2 : ∀ a, (![j, l, 0] : Fin 3 → ℕ) a + (S1r m).size a ≤ S7x512x4096.size a} {hq : (S1r m).Squeezes (Sr m)}
    {hs : (cmV i l m h1 hq1).view.WordExact} {hd : (cmV j l m h2 hq).view.WordExact} {hsc} {hsem}
    {kt : PUnit → Prog (TpuEff nD τ sig (Elt F) Λ₀ .tc) α} (h : pos t = k ∧ 12 ≤ t.val) (hsub : srcA t ⊆ gotA n \ lentA k) :
    (Ctx X K : sProp 𝕄) ⊢ iprop(Comm X c k 0 n -∗ (Comm X c (k + 1) 0 n -∗ WP c (kt ⟨⟩) Q)
      -∗ WP c (.op (.enqueueDma (cmV i l m h1 hq1) (.remote (Dev.tc d) (cmV j l m h2 hq) (.dma s1) hsc) (.dma s2) hs hd hsem) kt) Q) :=
  curry2 (wp_send_c X K t hdev hs1 hs2 e.1 e.2.1 e.2.2.1 e.2.2.2 h hsub)

theorem slab {c : Dev nD} {k w : ℕ} (n : ℕ) (j : Fin 7) (e : Dev nD) (j' l m : ℕ) (hj : j.val = j') (he : e = xr (mask j) c)
    (hc : (IsCut l ∧ IsCut (l + m)) ∧ ats j l m ⊆ gotA n) {α : Type} {Q : α → sProp 𝕄}
    {h : ∀ a, (![j', l, 0] : Fin 3 → ℕ) a + (S1r m).size a ≤ S7x512x4096.size a} {hl} {kt : ((S1r m).Idx → Elt F .fp8e5m2) → Prog (TpuEff nD τ sig (Elt F) Λ₀ .tc) α} :
    (Comm X c k w n : sProp 𝕄) ⊢ iprop((Comm X c k w n -∗ WP c (kt (slabF m l (x8F X e))) Q)
      -∗ WP c (.op (.load cmM (Rect.unit (s := S7x512x4096) ![j', l, 0] (S1r m).size h).toLoadRect hl) kt) Q) :=
  wp_load_slab X j e hj he hc

/-- A row block of the result, at anything; at what the device computes. -/
abbrev Oin (c e : Dev nD) : sProp 𝕄 := iprop(∃ f, oPt (F := F) c (rowsW (512 * e.val) 512) f)
abbrev Odone (c e : Dev nD) : sProp 𝕄 := oPt c (rowsW (512 * e.val) 512) (outF X Wt sc c)

theorem outs {c : Dev nD} (b : Fin 2) (e : Dev nD) {b' : ℕ} (hb : b.val = b') {off : Fin 2 → ℕ} (ho : off = ![512 * e.val, 0])
    {α : Type} {Q : α → sProp 𝕄} {s0 : DmaSem sig} (hs0 : s0 = oS b)
    {h1 : ∀ a, off a + S512x1024.size a ≤ S4096x1024.size a}
    {h2 : ∀ a, (![b', 0, 0] : Fin 3 → ℕ) a + S1x512x1024.size a ≤ S2x512x1024.size a} {hq : S1x512x1024.Squeezes S512x1024}
    {hs : (acV b' h2 hq).view.WordExact} {hd : (oM.slice (Rect.unit (s := S4096x1024) off S512x1024.size h1) (fun _ => rfl)).view.WordExact} {hsem}
    {kt : PUnit → Prog (TpuEff nD τ sig (Elt F) Λ₀ .tc) α} :
    (Acc X Wt sc c b e 512 : sProp 𝕄) ⊢ iprop(oSem c b -∗ Oin c e -∗ (OFly X Wt sc c b e -∗ WP c (kt ⟨⟩) Q)
        -∗ WP c (.op (.enqueueDma (acV b' h2 hq) (.here (oM.slice (Rect.unit (s := S4096x1024) off S512x1024.size h1) (fun _ => rfl))) (.dma s0) hs hd hsem) kt) Q) :=
  curry3 (wp_out X Wt sc b e hb ho hs0)

theorem outd {c : Dev nD} {k w n : ℕ} (b : Fin 2) (e e' : Dev nD) {α : Type} {Q : α → sProp 𝕄} {s0 : DmaSem sig} (hs0 : s0 = oS b)
    {s' : Shape} {t' : EltTy} {sp sp' : Space} {src : Memref sig .tc sp' s' t'} {dst : Memref sig .tc sp S512x1024 .f32} (hN : dst.view.dmaCredit = NT)
    {hs : src.view.WordExact} {hd : dst.view.WordExact} {kt : PUnit → Prog (TpuEff nD τ sig (Elt F) Λ₀ .tc) α} :
    (Ctx X K : sProp 𝕄) ⊢ iprop(Comm X c k w n -∗ OFly X Wt sc c b e
        -∗ (iprop(Comm X c k w n ∗ Odone X Wt sc c e ∗ Acc X Wt sc c b e' 0 ∗ oSem c b) -∗ WP c (kt ⟨⟩) Q)
        -∗ WP c (.op (.waitDma2 s0 src dst hs hd) kt) Q) := by
  iintro #HC HM HO Hk
  iapply (curry3 (wp_outd X Wt sc K b e hs0 hN)) $$ HC HM HO
  iintro ⟨HM, Ho, ⟨%f, HA⟩, Hs⟩
  ihave HA := (Acc_any X Wt sc c b e' f) $$ HA
  iapply Hk
  iframe

/-! ## The second stage -/

theorem part12 (c : Dev nD) (v6 v8 v9 : BitVec 32) {Q : (Σ' (v330 : BitVec 32), BitVec 32) → sProp 𝕄} :
    iprop(Ctx X K ∗ Comm X c 12 0 0) ⊢ iprop((∀ a, Comm X c 13 0 2 -∗ Q a) -∗ WP c (k0_part12 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v6 v8 v9) Q) := by
  simp only [k0_part12_eq_skeleton]
  unfold k0_part12_skel
  simp only [Prog.lift, Prog.bind_op, Prog.bind_ret, Prog.pure_eq_ret]
  iintro ⟨#HC, HM⟩ Hk
  iapply (recv X K 12 0 4 128 (sem_recv 4 4 rfl _ _) rfl (by decide) (by decide)) $$ HC HM
  iintro HM
  iapply (send_c X K 12 1 12 1 3 0 128 (dev16 c) (sem_send 12 12 rfl _ _) (sem_recv 12 12 rfl _ _) ⟨rfl, rfl, rfl, rfl⟩ (by decide) (by decide)) $$ HC HM
  iintro HM
  iapply (recv X K 13 1 8 128 (sem_recv 8 8 rfl _ _) rfl (by decide) (by decide)) $$ HC HM
  iintro HM
  iapply wp_done
  iapply Hk
  iexact HM

theorem part13 (c : Dev nD) (v6 v8 v9 v330 c0_i32_300 : BitVec 32) {Q : (PUnit) → sProp 𝕄} :
    iprop(Ctx X K ∗ Comm X c 13 0 2) ⊢ iprop((Comm X c 15 0 3 -∗ Q ⟨⟩) -∗ WP c (k0_part13 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v6 v8 v9 v330 c0_i32_300) Q) := by
  simp only [k0_part13_eq_skeleton]
  unfold k0_part13_skel
  simp only [Prog.lift, Prog.bind_op, Prog.bind_ret, Prog.pure_eq_ret]
  iintro ⟨#HC, HM⟩ Hk
  iapply (send_c X K 13 2 16 2 4 0 128 (dev17 c) (sem_send 16 16 rfl _ _) (sem_recv 16 16 rfl _ _) ⟨rfl, rfl, rfl, rfl⟩ (by decide) (by decide)) $$ HC HM
  iintro HM
  iapply (recv X K 14 2 0 128 (sem_recv 0 0 rfl _ _) rfl (by decide) (by decide)) $$ HC HM
  iintro HM
  iapply (send_c X K 14 3 20 0 5 0 128 (dev18 c) (sem_send 20 20 rfl _ _) (sem_recv 20 20 rfl _ _) ⟨rfl, rfl, rfl, rfl⟩ (by decide) (by decide)) $$ HC HM
  iintro HM
  iapply wp_done
  iapply Hk
  iexact HM

theorem part14 (c : Dev nD) (v6 v8 v9 : BitVec 32) {Q : (PUnit) → sProp 𝕄} :
    iprop(Ctx X K ∗ Comm X c 15 0 3) ⊢ iprop((Comm X c 16 0 5 -∗ Q ⟨⟩) -∗ WP c (k0_part14 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v6 v8 v9) Q) := by
  simp only [k0_part14_eq_skeleton]
  unfold k0_part14_skel
  simp only [Prog.lift, Prog.bind_op, Prog.bind_ret, Prog.pure_eq_ret]
  iintro ⟨#HC, HM⟩ Hk
  iapply (recv X K 15 3 5 128 (sem_recv 5 5 rfl _ _) rfl (by decide) (by decide)) $$ HC HM
  iintro HM
  iapply (send_c X K 15 4 13 1 3 128 128 (dev19 c) (sem_send 13 13 rfl _ _) (sem_recv 13 13 rfl _ _) ⟨rfl, rfl, rfl, rfl⟩ (by decide) (by decide)) $$ HC HM
  iintro HM
  iapply (recv X K 16 4 9 128 (sem_recv 9 9 rfl _ _) rfl (by decide) (by decide)) $$ HC HM
  iintro HM
  iapply wp_done
  iapply Hk
  iexact HM

theorem part15 (c : Dev nD) (v6 v8 v9 : BitVec 32) {Q : (PUnit) → sProp 𝕄} :
    iprop(Ctx X K ∗ Comm X c 16 0 5) ⊢ iprop((Comm X c 18 0 6 -∗ Q ⟨⟩) -∗ WP c (k0_part15 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v6 v8 v9) Q) := by
  simp only [k0_part15_eq_skeleton]
  unfold k0_part15_skel
  simp only [Prog.lift, Prog.bind_op, Prog.bind_ret, Prog.pure_eq_ret]
  iintro ⟨#HC, HM⟩ Hk
  iapply (send_c X K 16 5 17 2 4 128 128 (dev20 c) (sem_send 17 17 rfl _ _) (sem_recv 17 17 rfl _ _) ⟨rfl, rfl, rfl, rfl⟩ (by decide) (by decide)) $$ HC HM
  iintro HM
  iapply (recv X K 17 5 1 128 (sem_recv 1 1 rfl _ _) rfl (by decide) (by decide)) $$ HC HM
  iintro HM
  iapply (send_c X K 17 6 21 0 5 128 128 (dev21 c) (sem_send 21 21 rfl _ _) (sem_recv 21 21 rfl _ _) ⟨rfl, rfl, rfl, rfl⟩ (by decide) (by decide)) $$ HC HM
  iintro HM
  iapply wp_done
  iapply Hk
  iexact HM

theorem part16 (c : Dev nD) (v6 v8 v9 : BitVec 32) {Q : (PUnit) → sProp 𝕄} :
    iprop(Ctx X K ∗ Comm X c 18 0 6) ⊢ iprop((Comm X c 19 0 8 -∗ Q ⟨⟩) -∗ WP c (k0_part16 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v6 v8 v9) Q) := by
  simp only [k0_part16_eq_skeleton]
  unfold k0_part16_skel
  simp only [Prog.lift, Prog.bind_op, Prog.bind_ret, Prog.pure_eq_ret]
  iintro ⟨#HC, HM⟩ Hk
  iapply (recv X K 18 6 6 128 (sem_recv 6 6 rfl _ _) rfl (by decide) (by decide)) $$ HC HM
  iintro HM
  iapply (send_c X K 18 7 14 1 3 256 128 (dev22 c) (sem_send 14 14 rfl _ _) (sem_recv 14 14 rfl _ _) ⟨rfl, rfl, rfl, rfl⟩ (by decide) (by decide)) $$ HC HM
  iintro HM
  iapply (recv X K 19 7 10 128 (sem_recv 10 10 rfl _ _) rfl (by decide) (by decide)) $$ HC HM
  iintro HM
  iapply wp_done
  iapply Hk
  iexact HM

theorem part17 (c : Dev nD) (v6 v8 v9 : BitVec 32) {Q : (PUnit) → sProp 𝕄} :
    iprop(Ctx X K ∗ Comm X c 19 0 8) ⊢ iprop((Comm X c 21 0 10 -∗ Q ⟨⟩) -∗ WP c (k0_part17 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v6 v8 v9) Q) := by
  simp only [k0_part17_eq_skeleton]
  unfold k0_part17_skel
  simp only [Prog.lift, Prog.bind_op, Prog.bind_ret, Prog.pure_eq_ret]
  iintro ⟨#HC, HM⟩ Hk
  iapply (send_c X K 19 8 18 2 4 256 128 (dev23 c) (sem_send 18 18 rfl _ _) (sem_recv 18 18 rfl _ _) ⟨rfl, rfl, rfl, rfl⟩ (by decide) (by decide)) $$ HC HM
  iintro HM
  iapply (recv X K 20 8 2 128 (sem_recv 2 2 rfl _ _) rfl (by decide) (by decide)) $$ HC HM
  iintro HM
  iapply (send_c X K 20 9 22 0 5 256 128 (dev24 c) (sem_send 22 22 rfl _ _) (sem_recv 22 22 rfl _ _) ⟨rfl, rfl, rfl, rfl⟩ (by decide) (by decide)) $$ HC HM
  iintro HM
  iapply (recv X K 21 9 7 128 (sem_recv 7 7 rfl _ _) rfl (by decide) (by decide)) $$ HC HM
  iintro HM
  iapply wp_done
  iapply Hk
  iexact HM

theorem part18 (c : Dev nD) (v6 v8 v9 : BitVec 32) {Q : (BitVec 32) → sProp 𝕄} :
    iprop(Ctx X K ∗ Comm X c 21 0 10) ⊢ iprop((∀ a, Comm X c 23 0 11 -∗ Q a) -∗ WP c (k0_part18 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v6 v8 v9) Q) := by
  simp only [k0_part18_eq_skeleton]
  unfold k0_part18_skel
  simp only [Prog.lift, Prog.bind_op, Prog.bind_ret, Prog.pure_eq_ret]
  iintro ⟨#HC, HM⟩ Hk
  iapply (send_c X K 21 10 15 1 3 384 128 (dev25 c) (sem_send 15 15 rfl _ _) (sem_recv 15 15 rfl _ _) ⟨rfl, rfl, rfl, rfl⟩ (by decide) (by decide)) $$ HC HM
  iintro HM
  iapply (recv X K 22 10 11 128 (sem_recv 11 11 rfl _ _) rfl (by decide) (by decide)) $$ HC HM
  iintro HM
  iapply (send_c X K 22 11 19 2 4 384 128 (dev26 c) (sem_send 19 19 rfl _ _) (sem_recv 19 19 rfl _ _) ⟨rfl, rfl, rfl, rfl⟩ (by decide) (by decide)) $$ HC HM
  iintro HM
  iapply wp_done
  iapply Hk
  iexact HM

/-! ## Seven blocks of the result, each from a slot of the communication buffer -/

theorem off_0 (c : Dev nD) : k0_off2 c 1#32 = ![512 * (xr 1 c).val, 0] := by revert c; decide
theorem off_1 (c : Dev nD) : k0_off2 c 3#32 = ![512 * (xr 3 c).val, 0] := by revert c; decide
theorem off_2 (c : Dev nD) : k0_off3 c = ![512 * (xr 4 c).val, 0] := by revert c; decide

theorem part19 (c : Dev nD) (v6 v9 c1 : BitVec 32) {Q : PUnit → sProp 𝕄} :
    iprop(Ctx X K ∗ Comm X c 23 0 11 ∗ W8 Wt c 4096 ∗ Acc X Wt sc c 1 (xr 1 c) 0)
      ⊢ iprop((iprop(Comm X c 24 0 12 ∗ W8 Wt c 4096 ∗ Acc X Wt sc c 1 (xr 1 c) 512) -∗ Q ⟨⟩)
      -∗ WP c (k0_part19 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v6 v9 (sc c) c1) Q) := by
  simp only [k0_part19_eq_skeleton]
  unfold k0_part19_skel
  simp only [Prog.lift, Prog.bind_op, Prog.bind_ret, Prog.pure_eq_ret]
  iintro ⟨#HC, HM, H8, HA⟩ Hk
  iapply (recv X K 23 11 3 128 (sem_recv 3 3 rfl _ _) rfl (by decide) (by decide)) $$ HC HM
  iintro HM
  iapply (send_c X K 23 12 23 0 5 384 128 (dev27 c) (sem_send 23 23 rfl _ _) (sem_recv 23 23 rfl _ _) ⟨rfl, rfl, rfl, rfl⟩ (by decide) (by decide)) $$ HC HM
  iintro HM
  iapply (slab X 12 0 (xr 1 c) 0 0 512 rfl rfl (by decide)) $$ HM
  iintro HM
  iapply (wp_load_w8 Wt) $$ H8
  iintro H8
  iapply (wp_load_acc X Wt sc rfl) $$ HA
  iintro %u HA
  iapply (wp_store_acc X Wt sc rfl (pay_whole X Wt sc c _ (ne6 1 (by decide) c) _ (pay_slab X Wt sc c (xr 1 c)))) $$ HA
  iintro HA
  iapply wp_done
  iapply Hk $$ [HM H8 HA]
  iframe

theorem part20 (c : Dev nD) (v8 : BitVec 32) {Q : FVec F S512x4096 .fp8e5m2 → sProp 𝕄} :
    iprop(Ctx X K ∗ Comm X c 24 0 12 ∗ W8 Wt c 4096 ∗ (OFly X Wt sc c 0 c) ∗ (Acc X Wt sc c 1 (xr 1 c) 512 ∗ oSem c 1 ∗ Oin c (xr 1 c)) ∗ Oin c (xr 3 c))
      ⊢ iprop((∀ v : FVec F S512x4096 .fp8e5m2, ⌜v = x8F X (xr 4 c)⌝ -∗ iprop(Comm X c 24 0 12 ∗ W8 Wt c 4096 ∗ OFly X Wt sc c 0 (xr 3 c) ∗ OFly X Wt sc c 1 (xr 1 c) ∗ Odone X Wt sc c c) -∗ Q v)
      -∗ WP c (k0_part20 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v8 (sc c)) Q) := by
  simp only [k0_part20_eq_skeleton]
  unfold k0_part20_skel
  simp only [Prog.lift, Prog.bind_op, Prog.bind_ret, Prog.pure_eq_ret]
  iintro ⟨#HC, HM, H8, HO0, ⟨HA, Hs, Ho⟩, Ho'⟩ Hk
  iapply (outs X Wt sc 1 (xr 1 c) rfl (off_0 c) (sem_o 1 1 rfl _ _)) $$ HA Hs Ho
  iintro HO1
  iapply (slab X 12 1 (xr 3 c) 1 0 512 rfl rfl (by decide)) $$ HM
  iintro HM
  iapply (outd X Wt sc K 0 c (xr 3 c) (sem_o 0 0 rfl _ _) rfl) $$ HC HM HO0
  iintro ⟨HM, Hd, HA, Hs⟩
  iapply (wp_load_w8 Wt) $$ H8
  iintro H8
  iapply (wp_load_acc X Wt sc rfl) $$ HA
  iintro %u HA
  iapply (wp_store_acc X Wt sc rfl (pay_whole X Wt sc c _ (ne6 3 (by decide) c) _ (pay_slab X Wt sc c (xr 3 c)))) $$ HA
  iintro HA
  iapply (outs X Wt sc 0 (xr 3 c) rfl (off_1 c) (sem_o 0 0 rfl _ _)) $$ HA Hs Ho'
  iintro HO0
  iapply (slab X 12 2 (xr 4 c) 2 0 512 rfl rfl (by decide)) $$ HM
  iintro HM
  iapply wp_done
  iapply Hk $$ [] [HM H8 HO0 HO1 Hd]
  · ipureintro; exact pay_cast X (xr 4 c)
  iframe

theorem part21 (c : Dev nD) (v8 v9 : BitVec 32) (v : FVec F S512x4096 .fp8e5m2) (hv : v = x8F X (xr 4 c)) {Q : PUnit → sProp 𝕄} :
    iprop(Ctx X K ∗ Comm X c 24 0 12 ∗ W8 Wt c 4096 ∗ OFly X Wt sc c 1 (xr 1 c) ∗ Oin c (xr 4 c))
      ⊢ iprop((iprop(Comm X c 24 0 13 ∗ W8 Wt c 4096 ∗ OFly X Wt sc c 1 (xr 4 c) ∗ Odone X Wt sc c (xr 1 c)) -∗ Q ⟨⟩)
      -∗ WP c (k0_part21 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v8 v9 (sc c) v) Q) := by
  subst hv
  simp only [k0_part21_eq_skeleton]
  unfold k0_part21_skel
  simp only [Prog.lift, Prog.bind_op, Prog.bind_ret, Prog.pure_eq_ret]
  iintro ⟨#HC, HM, H8, HO1, Ho⟩ Hk
  iapply (outd X Wt sc K 1 (xr 1 c) (xr 4 c) (sem_o 1 1 rfl _ _) rfl) $$ HC HM HO1
  iintro ⟨HM, Hd, HA, Hs⟩
  iapply (wp_load_w8 Wt) $$ H8
  iintro H8
  iapply (wp_load_acc X Wt sc rfl) $$ HA
  iintro %u HA
  iapply (wp_store_acc X Wt sc rfl (pay_whole X Wt sc c _ (ne6 4 (by decide) c) _ (pay_own X Wt sc c (xr 4 c)))) $$ HA
  iintro HA
  iapply (outs X Wt sc 1 (xr 4 c) rfl (off_2 c) (sem_o 1 1 rfl _ _)) $$ HA Hs Ho
  iintro HO1
  iapply (recv X K 24 12 16 128 (sem_recv 16 16 rfl _ _) rfl (by decide) (by decide)) $$ HC HM
  iintro HM
  iapply wp_done
  iapply Hk $$ [HM H8 HO1 Hd]
  iframe

end Cert.Ring

end
-- ==== Proof.Body4.lean ====
/-
The body through the third stage of transfers and the last four blocks of the result.
-/
module

public import proofs.«01_k».proof.Proof.Body3

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight Flight_mono wp_dmaLocal wp_waitLocalO)

variable {F : FTy → Type} [FloatOps F]

local notation "𝕄" => MT nD τ sig Unit (Elt F) ℕ UU ℕ

variable (X : Dev nD → S512x4096.Idx → Elt F .f32) (Wt : Dev nD → S4096x1024.Idx → Elt F .f32) (sc : Dev nD → Elt F .f32)

variable (K : GSem nD τ sig → ℕ)

/-! ## The third stage -/

theorem part22 (c : Dev nD) (v6 v9 : BitVec 32) {Q : PUnit → sProp 𝕄} :
    iprop(Ctx X K ∗ Comm X c 24 0 13)
      ⊢ iprop((iprop(Comm X c 25 0 15) -∗ Q ⟨⟩)
      -∗ WP c (k0_part22 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v6 v9) Q) := by
  simp only [k0_part22_eq_skeleton]
  unfold k0_part22_skel
  simp only [Prog.lift, Prog.bind_op, Prog.bind_ret, Prog.pure_eq_ret]
  iintro ⟨#HC, HM⟩ Hk
  iapply (recv X K 24 13 17 128 (sem_recv 17 17 rfl _ _) rfl (by decide) (by decide)) $$ HC HM
  iintro HM
  iapply (send_c X K 24 14 24 4 6 0 192 (dev28 c) (sem_send 24 24 rfl _ _) (sem_recv 24 24 rfl _ _) ⟨rfl, rfl, rfl, rfl⟩ (by decide) (by decide)) $$ HC HM
  iintro HM
  iapply (recv X K 25 14 21 128 (sem_recv 21 21 rfl _ _) rfl (by decide) (by decide)) $$ HC HM
  iintro HM
  iapply wp_done
  iapply Hk $$ [HM]
  iframe

theorem part23 (c : Dev nD) (v6 v8 v9 : BitVec 32) {Q : PUnit → sProp 𝕄} :
    iprop(Ctx X K ∗ Comm X c 25 0 15)
      ⊢ iprop((iprop(Comm X c 26 0 17) -∗ Q ⟨⟩)
      -∗ WP c (k0_part23 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v6 v8 v9) Q) := by
  simp only [k0_part23_eq_skeleton]
  unfold k0_part23_skel
  simp only [Prog.lift, Prog.bind_op, Prog.bind_ret, Prog.pure_eq_ret]
  iintro ⟨#HC, HM⟩ Hk
  iapply (recv X K 25 15 22 128 (sem_recv 22 22 rfl _ _) rfl (by decide) (by decide)) $$ HC HM
  iintro HM
  iapply (send_c X K 25 16 25 5 6 192 192 (dev29 c) (sem_send 25 25 rfl _ _) (sem_recv 25 25 rfl _ _) ⟨rfl, rfl, rfl, rfl⟩ (by decide) (by decide)) $$ HC HM
  iintro HM
  iapply (recv X K 26 16 15 128 (sem_recv 15 15 rfl _ _) rfl (by decide) (by decide)) $$ HC HM
  iintro HM
  iapply wp_done
  iapply Hk $$ [HM]
  iframe

theorem part24 (c : Dev nD) (v6 : BitVec 32) {Q : PUnit → sProp 𝕄} :
    iprop(Ctx X K ∗ Comm X c 26 0 17)
      ⊢ iprop((iprop(Comm X c 27 0 19) -∗ Q ⟨⟩)
      -∗ WP c (k0_part24 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v6) Q) := by
  simp only [k0_part24_eq_skeleton]
  unfold k0_part24_skel
  simp only [Prog.lift, Prog.bind_op, Prog.bind_ret, Prog.pure_eq_ret]
  iintro ⟨#HC, HM⟩ Hk
  iapply (send_c X K 26 17 26 3 6 384 128 (dev30 c) (sem_send 26 26 rfl _ _) (sem_recv 26 26 rfl _ _) ⟨rfl, rfl, rfl, rfl⟩ (by decide) (by decide)) $$ HC HM
  iintro HM
  iapply (recv X K 27 17 12 128 (sem_recv 12 12 rfl _ _) rfl (by decide) (by decide)) $$ HC HM
  iintro HM
  iapply (recv X K 27 18 13 128 (sem_recv 13 13 rfl _ _) rfl (by decide) (by decide)) $$ HC HM
  iintro HM
  iapply wp_done
  iapply Hk $$ [HM]
  iframe

theorem part25 (c : Dev nD) (v8 v9 : BitVec 32) {Q : PUnit → sProp 𝕄} :
    iprop(Ctx X K ∗ Comm X c 27 0 19)
      ⊢ iprop((iprop(Comm X c 27 0 22) -∗ Q ⟨⟩)
      -∗ WP c (k0_part25 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 v8 v9) Q) := by
  simp only [k0_part25_eq_skeleton]
  unfold k0_part25_skel
  simp only [Prog.lift, Prog.bind_op, Prog.bind_ret, Prog.pure_eq_ret]
  iintro ⟨#HC, HM⟩ Hk
  iapply (recv X K 27 19 14 128 (sem_recv 14 14 rfl _ _) rfl (by decide) (by decide)) $$ HC HM
  iintro HM
  iapply (recv X K 27 20 18 128 (sem_recv 18 18 rfl _ _) rfl (by decide) (by decide)) $$ HC HM
  iintro HM
  iapply (recv X K 27 21 19 128 (sem_recv 19 19 rfl _ _) rfl (by decide) (by decide)) $$ HC HM
  iintro HM
  iapply wp_done
  iapply Hk $$ [HM]
  iframe

/-! ## The other four blocks -/

theorem off_3 (c : Dev nD) : k0_off4 c = ![512 * (xr 2 c).val, 0] := by revert c; decide
theorem off_4 (c : Dev nD) : k0_off5 c = ![512 * (xr 7 c).val, 0] := by revert c; decide
theorem off_5 (c : Dev nD) : k0_off6 c = ![512 * (xr 5 c).val, 0] := by revert c; decide
theorem off_6 (c : Dev nD) : k0_off7 c = ![512 * (xr 6 c).val, 0] := by revert c; decide

theorem part26 (c : Dev nD) (v9 v13 : BitVec 32) {Q : PUnit → sProp 𝕄} :
    iprop(Ctx X K ∗ Comm X c 27 0 22 ∗ W8 Wt c 4096 ∗ OFly X Wt sc c 0 (xr 3 c))
      ⊢ iprop((iprop(Comm X c 27 0 24 ∗ W8 Wt c 4096 ∗ Odone X Wt sc c (xr 3 c) ∗ Acc X Wt sc c 0 (xr 2 c) 512 ∗ oSem c 0) -∗ Q ⟨⟩)
      -∗ WP c (k0_part26 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v9 v13 (sc c)) Q) := by
  simp only [k0_part26_eq_skeleton]
  unfold k0_part26_skel
  simp only [Prog.lift, Prog.bind_op, Prog.bind_ret, Prog.pure_eq_ret]
  iintro ⟨#HC, HM, H8, HO0⟩ Hk
  iapply (recv X K 27 22 20 128 (sem_recv 20 20 rfl _ _) rfl (by decide) (by decide)) $$ HC HM
  iintro HM
  iapply (recv X K 27 23 23 128 (sem_recv 23 23 rfl _ _) rfl (by decide) (by decide)) $$ HC HM
  iintro HM
  iapply (slab X 24 3 (xr 2 c) 3 0 512 rfl rfl (by decide)) $$ HM
  iintro HM
  iapply (outd X Wt sc K 0 (xr 3 c) (xr 2 c) (sem_o 0 0 rfl _ _) rfl) $$ HC HM HO0
  iintro ⟨HM, Hd, HA, Hs⟩
  iapply (wp_load_w8 Wt) $$ H8
  iintro H8
  iapply (wp_load_acc X Wt sc rfl) $$ HA
  iintro %u HA
  iapply (wp_store_acc X Wt sc rfl (pay_whole X Wt sc c _ (ne6 2 (by decide) c) _ (pay_slab X Wt sc c (xr 2 c)))) $$ HA
  iintro HA
  iapply wp_done
  iapply Hk $$ [HM H8 Hd HA Hs]
  iframe

theorem part27 (c : Dev nD) (v14 : BitVec 32) {Q : FVec F S512x4096 .fp8e5m2 → sProp 𝕄} :
    iprop(Ctx X K ∗ Comm X c 27 0 24 ∗ W8 Wt c 4096 ∗ (Acc X Wt sc c 0 (xr 2 c) 512 ∗ oSem c 0 ∗ Oin c (xr 2 c)) ∗ OFly X Wt sc c 1 (xr 4 c) ∗ Oin c (xr 7 c))
      ⊢ iprop((∀ v : FVec F S512x4096 .fp8e5m2, ⌜v = x8F X (xr 5 c)⌝ -∗ iprop(Comm X c 27 0 24 ∗ W8 Wt c 4096 ∗ OFly X Wt sc c 0 (xr 2 c) ∗ OFly X Wt sc c 1 (xr 7 c) ∗ Odone X Wt sc c (xr 4 c)) -∗ Q v)
      -∗ WP c (k0_part27 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v14 (sc c)) Q) := by
  simp only [k0_part27_eq_skeleton]
  unfold k0_part27_skel
  simp only [Prog.lift, Prog.bind_op, Prog.bind_ret, Prog.pure_eq_ret]
  iintro ⟨#HC, HM, H8, ⟨HA, Hs, Ho⟩, HO1, Ho'⟩ Hk
  iapply (outs X Wt sc 0 (xr 2 c) rfl (off_3 c) (sem_o 0 0 rfl _ _)) $$ HA Hs Ho
  iintro HO0
  iapply (slab X 24 4 (xr 7 c) 4 0 512 rfl rfl (by decide)) $$ HM
  iintro HM
  iapply (outd X Wt sc K 1 (xr 4 c) (xr 7 c) (sem_o 1 1 rfl _ _) rfl) $$ HC HM HO1
  iintro ⟨HM, Hd, HA, Hs⟩
  iapply (wp_load_w8 Wt) $$ H8
  iintro H8
  iapply (wp_load_acc X Wt sc rfl) $$ HA
  iintro %u HA
  iapply (wp_store_acc X Wt sc rfl (pay_whole X Wt sc c _ (ne6 7 (by decide) c) _ (pay_slab X Wt sc c (xr 7 c)))) $$ HA
  iintro HA
  iapply (outs X Wt sc 1 (xr 7 c) rfl (off_4 c) (sem_o 1 1 rfl _ _)) $$ HA Hs Ho'
  iintro HO1
  iapply (slab X 24 5 (xr 5 c) 5 0 512 rfl rfl (by decide)) $$ HM
  iintro HM
  iapply wp_done
  iapply Hk $$ [] [HM H8 HO0 HO1 Hd]
  · ipureintro; exact pay_cast X (xr 5 c)
  iframe

theorem part28 (c : Dev nD) (v6 v18 : BitVec 32) (v : FVec F S512x4096 .fp8e5m2) (hv : v = x8F X (xr 5 c)) {Q : PUnit → sProp 𝕄} :
    iprop(Ctx X K ∗ Comm X c 27 0 24 ∗ W8 Wt c 4096 ∗ OFly X Wt sc c 0 (xr 2 c) ∗ OFly X Wt sc c 1 (xr 7 c) ∗ Oin c (xr 5 c))
      ⊢ iprop((iprop(Comm X c 27 0 24 ∗ W8 Wt c 4096 ∗ OFly X Wt sc c 0 (xr 5 c) ∗ Odone X Wt sc c (xr 2 c) ∗ Odone X Wt sc c (xr 7 c) ∗ Acc X Wt sc c 1 (xr 6 c) 0 ∗ oSem c 1) -∗ Q ⟨⟩)
      -∗ WP c (k0_part28 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v6 v18 (sc c) v) Q) := by
  subst hv
  simp only [k0_part28_eq_skeleton]
  unfold k0_part28_skel
  simp only [Prog.lift, Prog.bind_op, Prog.bind_ret, Prog.pure_eq_ret]
  iintro ⟨#HC, HM, H8, HO0, HO1, Ho⟩ Hk
  iapply (outd X Wt sc K 0 (xr 2 c) (xr 5 c) (sem_o 0 0 rfl _ _) rfl) $$ HC HM HO0
  iintro ⟨HM, Hd, HA, Hs⟩
  iapply (wp_load_w8 Wt) $$ H8
  iintro H8
  iapply (wp_load_acc X Wt sc rfl) $$ HA
  iintro %u HA
  iapply (wp_store_acc X Wt sc rfl (pay_whole X Wt sc c _ (ne6 5 (by decide) c) _ (pay_own X Wt sc c (xr 5 c)))) $$ HA
  iintro HA
  iapply (outs X Wt sc 0 (xr 5 c) rfl (off_5 c) (sem_o 0 0 rfl _ _)) $$ HA Hs Ho
  iintro HO0
  iapply (outd X Wt sc K 1 (xr 7 c) (xr 6 c) (sem_o 1 1 rfl _ _) rfl) $$ HC HM HO1
  iintro ⟨HM, Hd', HA, Hs⟩
  iapply wp_done
  iapply Hk $$ [HM H8 HO0 Hd Hd' HA Hs]
  iframe

theorem part29 (c : Dev nD) (v8 : BitVec 32) {Q : PUnit → sProp 𝕄} :
    iprop(Ctx X K ∗ Comm X c 27 0 24 ∗ W8 Wt c 4096 ∗ Acc X Wt sc c 1 (xr 6 c) 0)
      ⊢ iprop((iprop(Comm X c 27 0 26 ∗ W8 Wt c 4096 ∗ Acc X Wt sc c 1 (xr 6 c) 384) -∗ Q ⟨⟩)
      -∗ WP c (k0_part29 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 v8 (sc c)) Q) := by
  simp only [k0_part29_eq_skeleton]
  unfold k0_part29_skel
  simp only [Prog.lift, Prog.bind_op, Prog.bind_ret, Prog.pure_eq_ret]
  iintro ⟨#HC, HM, H8, HA⟩ Hk
  iapply (recv X K 27 24 24 192 (sem_recv 24 24 rfl _ _) rfl (by decide) (by decide)) $$ HC HM
  iintro HM
  iapply (slab X 25 6 (xr 6 c) 6 0 192 rfl rfl (by decide)) $$ HM
  iintro HM
  iapply (wp_load_w8 Wt) $$ H8
  iintro H8
  iapply (wp_load_acc X Wt sc rfl) $$ HA
  iintro %u24 HA
  iapply (wp_store_acc X Wt sc rfl (pay_first X Wt sc c (xr 6 c) rfl)) $$ HA
  iintro HA
  iapply (recv X K 27 25 25 192 (sem_recv 25 25 rfl _ _) rfl (by decide) (by decide)) $$ HC HM
  iintro HM
  iapply (slab X 26 6 (xr 6 c) 6 192 192 rfl rfl (by decide)) $$ HM
  iintro HM
  iapply (wp_load_w8 Wt) $$ H8
  iintro H8
  iapply (wp_load_acc X Wt sc rfl) $$ HA
  iintro %u25 HA
  iapply (wp_store_acc X Wt sc rfl (pay_second X Wt sc c (xr 6 c) rfl)) $$ HA
  iintro HA
  iapply wp_done
  iapply Hk $$ [HM H8 HA]
  iframe

theorem part30 (c : Dev nD) (v9 v23 : BitVec 32) {Q : PUnit → sProp 𝕄} :
    iprop(Ctx X K ∗ Comm X c 27 0 26 ∗ W8 Wt c 4096 ∗ (Acc X Wt sc c 1 (xr 6 c) 384 ∗ oSem c 1 ∗ Oin c (xr 6 c)))
      ⊢ iprop((iprop(Comm X c 27 0 27 ∗ W8 Wt c 4096 ∗ OFly X Wt sc c 1 (xr 6 c)) -∗ Q ⟨⟩)
      -∗ WP c (k0_part30 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c v9 v23 (sc c)) Q) := by
  simp only [k0_part30_eq_skeleton]
  unfold k0_part30_skel
  simp only [Prog.lift, Prog.bind_op, Prog.bind_ret, Prog.pure_eq_ret]
  iintro ⟨#HC, HM, H8, HA, Hs, Ho⟩ Hk
  iapply (recv X K 27 26 26 128 (sem_recv 26 26 rfl _ _) rfl (by decide) (by decide)) $$ HC HM
  iintro HM
  iapply (slab X 27 6 (xr 6 c) 6 384 128 rfl rfl (by decide)) $$ HM
  iintro HM
  iapply (wp_load_w8 Wt) $$ H8
  iintro H8
  iapply (wp_load_acc X Wt sc rfl) $$ HA
  iintro %u26 HA
  iapply (wp_store_acc X Wt sc rfl (pay_third X Wt sc c (xr 6 c) rfl)) $$ HA
  iintro HA
  iapply (outs X Wt sc 1 (xr 6 c) rfl (off_6 c) (sem_o 1 1 rfl _ _)) $$ HA Hs Ho
  iintro HO1
  iapply wp_done
  iapply Hk $$ [HM H8 HO1]
  iframe

end Cert.Ring

end
-- ==== Proof.Body5.lean ====
/-
The end of the body: every transfer sent, the last two blocks copied out.
-/
module

public import proofs.«01_k».proof.Proof.Body4

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight Flight_mono wp_dmaLocal wp_waitLocalO)

variable {F : FTy → Type} [FloatOps F]

local notation "𝕄" => MT nD τ sig Unit (Elt F) ℕ UU ℕ

variable (X : Dev nD → S512x4096.Idx → Elt F .f32) (Wt : Dev nD → S4096x1024.Idx → Elt F .f32) (sc : Dev nD → Elt F .f32)

variable (K : GSem nD τ sig → ℕ)

/-! ## Every transfer sent, before the body returns -/

theorem sent {c : Dev nD} (w n : ℕ) (t : Fin 27) (m : ℕ) {α : Type} {Q : α → sProp 𝕄}
    {sS : DmaSem sig} (hsem : sS = sendS t) (hn : nr t = m) {s' : Shape} {e' : EltTy} {sp' : Space} {src : Memref sig .tc sp' s' e'} {dst : Memref sig .tc .vmem (Sr m) .fp8e5m2}
    {hs : src.view.WordExact} {hd : dst.view.WordExact} {kt : PUnit → Prog (TpuEff nD τ sig (Elt F) Λ₀ .tc) α} (h : t.val = w) :
    (Ctx X K : sProp 𝕄) ⊢ iprop(Comm X c 27 w n -∗ (Comm X c 27 (w + 1) n -∗ WP c (kt ⟨⟩) Q) -∗ WP c (.op (.waitDma2 sS src dst hs hd) kt) Q) :=
  curry2 (wp_sent X K t hsem hn h)

theorem part31 (c : Dev nD) {Q : PUnit → sProp 𝕄} :
    iprop(Ctx X K ∗ Comm X c 27 0 27)
      ⊢ iprop((iprop(Comm X c 27 5 27) -∗ Q ⟨⟩)
      -∗ WP c (k0_part31 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8) Q) := by
  simp only [k0_part31_eq_skeleton]
  unfold k0_part31_skel
  simp only [Prog.lift, Prog.bind_op, Prog.bind_ret, Prog.pure_eq_ret]
  iintro ⟨#HC, HM⟩ Hk
  iapply (sent X K 0 27 0 128 (sem_send 0 0 rfl _ _) rfl rfl) $$ HC HM
  iintro HM
  iapply (sent X K 1 27 1 128 (sem_send 1 1 rfl _ _) rfl rfl) $$ HC HM
  iintro HM
  iapply (sent X K 2 27 2 128 (sem_send 2 2 rfl _ _) rfl rfl) $$ HC HM
  iintro HM
  iapply (sent X K 3 27 3 128 (sem_send 3 3 rfl _ _) rfl rfl) $$ HC HM
  iintro HM
  iapply (sent X K 4 27 4 128 (sem_send 4 4 rfl _ _) rfl rfl) $$ HC HM
  iintro HM
  iapply wp_done
  iapply Hk $$ [HM]
  iframe

theorem part32 (c : Dev nD) {Q : PUnit → sProp 𝕄} :
    iprop(Ctx X K ∗ Comm X c 27 5 27)
      ⊢ iprop((iprop(Comm X c 27 9 27) -∗ Q ⟨⟩)
      -∗ WP c (k0_part32 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8) Q) := by
  simp only [k0_part32_eq_skeleton]
  unfold k0_part32_skel
  simp only [Prog.lift, Prog.bind_op, Prog.bind_ret, Prog.pure_eq_ret]
  iintro ⟨#HC, HM⟩ Hk
  iapply (sent X K 5 27 5 128 (sem_send 5 5 rfl _ _) rfl rfl) $$ HC HM
  iintro HM
  iapply (sent X K 6 27 6 128 (sem_send 6 6 rfl _ _) rfl rfl) $$ HC HM
  iintro HM
  iapply (sent X K 7 27 7 128 (sem_send 7 7 rfl _ _) rfl rfl) $$ HC HM
  iintro HM
  iapply (sent X K 8 27 8 128 (sem_send 8 8 rfl _ _) rfl rfl) $$ HC HM
  iintro HM
  iapply wp_done
  iapply Hk $$ [HM]
  iframe

theorem part33 (c : Dev nD) {Q : PUnit → sProp 𝕄} :
    iprop(Ctx X K ∗ Comm X c 27 9 27)
      ⊢ iprop((iprop(Comm X c 27 13 27) -∗ Q ⟨⟩)
      -∗ WP c (k0_part33 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8) Q) := by
  simp only [k0_part33_eq_skeleton]
  unfold k0_part33_skel
  simp only [Prog.lift, Prog.bind_op, Prog.bind_ret, Prog.pure_eq_ret]
  iintro ⟨#HC, HM⟩ Hk
  iapply (sent X K 9 27 9 128 (sem_send 9 9 rfl _ _) rfl rfl) $$ HC HM
  iintro HM
  iapply (sent X K 10 27 10 128 (sem_send 10 10 rfl _ _) rfl rfl) $$ HC HM
  iintro HM
  iapply (sent X K 11 27 11 128 (sem_send 11 11 rfl _ _) rfl rfl) $$ HC HM
  iintro HM
  iapply (sent X K 12 27 12 128 (sem_send 12 12 rfl _ _) rfl rfl) $$ HC HM
  iintro HM
  iapply wp_done
  iapply Hk $$ [HM]
  iframe

theorem part34 (c : Dev nD) {Q : PUnit → sProp 𝕄} :
    iprop(Ctx X K ∗ Comm X c 27 13 27)
      ⊢ iprop((iprop(Comm X c 27 17 27) -∗ Q ⟨⟩)
      -∗ WP c (k0_part34 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8) Q) := by
  simp only [k0_part34_eq_skeleton]
  unfold k0_part34_skel
  simp only [Prog.lift, Prog.bind_op, Prog.bind_ret, Prog.pure_eq_ret]
  iintro ⟨#HC, HM⟩ Hk
  iapply (sent X K 13 27 13 128 (sem_send 13 13 rfl _ _) rfl rfl) $$ HC HM
  iintro HM
  iapply (sent X K 14 27 14 128 (sem_send 14 14 rfl _ _) rfl rfl) $$ HC HM
  iintro HM
  iapply (sent X K 15 27 15 128 (sem_send 15 15 rfl _ _) rfl rfl) $$ HC HM
  iintro HM
  iapply (sent X K 16 27 16 128 (sem_send 16 16 rfl _ _) rfl rfl) $$ HC HM
  iintro HM
  iapply wp_done
  iapply Hk $$ [HM]
  iframe

theorem part35 (c : Dev nD) {Q : PUnit → sProp 𝕄} :
    iprop(Ctx X K ∗ Comm X c 27 17 27)
      ⊢ iprop((iprop(Comm X c 27 20 27) -∗ Q ⟨⟩)
      -∗ WP c (k0_part35 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8) Q) := by
  simp only [k0_part35_eq_skeleton]
  unfold k0_part35_skel
  simp only [Prog.lift, Prog.bind_op, Prog.bind_ret, Prog.pure_eq_ret]
  iintro ⟨#HC, HM⟩ Hk
  iapply (sent X K 17 27 17 128 (sem_send 17 17 rfl _ _) rfl rfl) $$ HC HM
  iintro HM
  iapply (sent X K 18 27 18 128 (sem_send 18 18 rfl _ _) rfl rfl) $$ HC HM
  iintro HM
  iapply (sent X K 19 27 19 128 (sem_send 19 19 rfl _ _) rfl rfl) $$ HC HM
  iintro HM
  iapply wp_done
  iapply Hk $$ [HM]
  iframe

theorem part36 (c : Dev nD) {Q : PUnit → sProp 𝕄} :
    iprop(Ctx X K ∗ Comm X c 27 20 27)
      ⊢ iprop((iprop(Comm X c 27 24 27) -∗ Q ⟨⟩)
      -∗ WP c (k0_part36 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8) Q) := by
  simp only [k0_part36_eq_skeleton]
  unfold k0_part36_skel
  simp only [Prog.lift, Prog.bind_op, Prog.bind_ret, Prog.pure_eq_ret]
  iintro ⟨#HC, HM⟩ Hk
  iapply (sent X K 20 27 20 128 (sem_send 20 20 rfl _ _) rfl rfl) $$ HC HM
  iintro HM
  iapply (sent X K 21 27 21 128 (sem_send 21 21 rfl _ _) rfl rfl) $$ HC HM
  iintro HM
  iapply (sent X K 22 27 22 128 (sem_send 22 22 rfl _ _) rfl rfl) $$ HC HM
  iintro HM
  iapply (sent X K 23 27 23 128 (sem_send 23 23 rfl _ _) rfl rfl) $$ HC HM
  iintro HM
  iapply wp_done
  iapply Hk $$ [HM]
  iframe

theorem part37 (c : Dev nD) {Q : PUnit → sProp 𝕄} :
    iprop(Ctx X K ∗ Comm X c 27 24 27 ∗ OFly X Wt sc c 0 (xr 5 c) ∗ OFly X Wt sc c 1 (xr 6 c))
      ⊢ iprop((iprop(Comm X c 27 27 27 ∗ Odone X Wt sc c (xr 5 c) ∗ Odone X Wt sc c (xr 6 c) ∗ (Acc X Wt sc c 0 c 0 ∗ oSem c 0) ∗ (Acc X Wt sc c 1 c 0 ∗ oSem c 1)) -∗ Q ⟨⟩)
      -∗ WP c (k0_part37 (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8 c) Q) := by
  simp only [k0_part37_eq_skeleton]
  unfold k0_part37_skel
  simp only [Prog.lift, Prog.bind_op, Prog.bind_ret, Prog.pure_eq_ret]
  iintro ⟨#HC, HM, HO0, HO1⟩ Hk
  iapply (sent X K 24 27 24 192 (sem_send 24 24 rfl _ _) rfl rfl) $$ HC HM
  iintro HM
  iapply (sent X K 25 27 25 192 (sem_send 25 25 rfl _ _) rfl rfl) $$ HC HM
  iintro HM
  iapply (sent X K 26 27 26 128 (sem_send 26 26 rfl _ _) rfl rfl) $$ HC HM
  iintro HM
  iapply (outd X Wt sc K 0 (xr 5 c) c (sem_o 0 0 rfl _ _) rfl) $$ HC HM HO0
  iintro ⟨HM, Hd, HA0, Hs0⟩
  iapply (outd X Wt sc K 1 (xr 6 c) c (sem_o 1 1 rfl _ _) rfl) $$ HC HM HO1
  iintro ⟨HM, Hd', HA1, Hs1⟩
  iapply wp_done
  iapply Hk $$ [HM Hd Hd' HA0 Hs0 HA1 Hs1]
  iframe

end Cert.Ring

end
-- ==== Proof.Body.lean ====
/-
The whole body: its parts one after another, from what a device holds on entry to what it holds on return.
-/
module

public import proofs.«01_k».proof.Proof.Body5

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight Flight_mono wp_dmaLocal wp_waitLocalO)

variable {F : FTy → Type} [FloatOps F]

local notation "𝕄" => MT nD τ sig Unit (Elt F) ℕ UU ℕ

variable (X : Dev nD → S512x4096.Idx → Elt F .f32) (Wt : Dev nD → S4096x1024.Idx → Elt F .f32) (sc : Dev nD → Elt F .f32)

variable (K : GSem nD τ sig → ℕ)

/-- What the body starts from, cut up as its parts use it. -/
def Start (c : Dev nD) : sProp 𝕄 :=
  iprop(BarSt (F := F) c 0 ∗ xPt X c ∗ sPt sc c ∗ (x8Any c 0 ∗ x8Any c 128 ∗ x8Any c 256 ∗ x8Any c 384)
    ∗ W8 Wt c 0 ∗ (WIdle Wt c 0 ∗ WIdle Wt c 1) ∗ (Acc X Wt sc c 0 c 0 ∗ oSem c 0) ∗ (Acc X Wt sc c 1 (xr 1 c) 0 ∗ oSem c 1)
    ∗ (Oin c c ∗ Oin c (xr 1 c) ∗ Oin c (xr 2 c) ∗ Oin c (xr 3 c) ∗ Oin c (xr 4 c) ∗ Oin c (xr 5 c) ∗ Oin c (xr 6 c) ∗ Oin c (xr 7 c)))

/-- What it ends with. -/
def End (c : Dev nD) : sProp 𝕄 :=
  iprop((Comm X c 27 27 27 ∗ semVal (barCell c) 0) ∗ xPt X c ∗ sPt sc c ∗ x8Keep X c
    ∗ W8 Wt c 4096 ∗ (WIdle Wt c 0 ∗ WIdle Wt c 1) ∗ (Acc X Wt sc c 0 c 0 ∗ oSem c 0) ∗ (Acc X Wt sc c 1 c 0 ∗ oSem c 1)
    ∗ (Odone X Wt sc c c ∗ Odone X Wt sc c (xr 1 c) ∗ Odone X Wt sc c (xr 2 c) ∗ Odone X Wt sc c (xr 3 c) ∗ Odone X Wt sc c (xr 4 c)
      ∗ Odone X Wt sc c (xr 5 c) ∗ Odone X Wt sc c (xr 6 c) ∗ Odone X Wt sc c (xr 7 c)))

set_option maxHeartbeats 4000000 in
theorem run (c : Dev nD) {Q : PUnit → sProp 𝕄} :
    iprop(Ctx X K ∗ Start X Wt sc c) ⊢ iprop((End X Wt sc c -∗ Q ⟨⟩)
      -∗ WP c (cc0_body (F := F) xM (Memref.isWhole_whole _) wM (Memref.isWhole_whole _) sM (Memref.isWhole_whole _) oM (Memref.isWhole_whole _) x8M (Memref.isWhole_whole _) w8M (Memref.isWhole_whole _) wbM (Memref.isWhole_whole _) cc0_scratch3 cmM (Memref.isWhole_whole _) cc0_scratch5 cc0_scratch6 acM (Memref.isWhole_whole _) cc0_scratch8) Q) := by
  simp only [cc0_body_eq_skeleton]
  unfold cc0_body_skel
  simp only [wp_bind]
  unfold Start
  iintro ⟨#HC, HB, Hx, Hs, ⟨Ha, Hb, Hc, Hd⟩, HW, ⟨Hw0, Hw1⟩, ⟨HA0, Ho0⟩, ⟨HA1, Ho1⟩, Hi0, Hi1, Hi2, Hi3, Hi4, Hi5, Hi6, Hi7⟩ Hk
  iapply (part1 X K c) $$ [HB]
  · iframe HB; iexact HC
  iintro %v2 %v6 %v8 %v9 %v13 %v14 %v18 %v23 %v29 HB
  iapply (part2 X K c v6 v8 v9 v29 0#32) $$ [HB Hx Ha]
  · iframe HB Hx Ha; iexact HC
  iintro %v55 ⟨HM, Hbar, Hx, Ha2, Ha3⟩
  iapply (part3 X K c v6 v8 v55 0#32) $$ [HM Hx Ha2 Hb]
  · iframe HM Hx Ha2 Hb; iexact HC
  iintro ⟨HM, Hx, Hb1, Hb2, Hb3⟩
  iapply (part4 X K c v6 v8 v9) $$ [HM Hx Hb1 Hb2 Hc]
  · iframe HM Hx Hb1 Hb2 Hc; iexact HC
  iintro ⟨HM, Hx, Hc1, Hc2, Hc3⟩
  iapply (part5 X K c v6 v9) $$ [HM Hx Hc1 Hc2 Hd]
  · iframe HM Hx Hc1 Hc2 Hd; iexact HC
  iintro ⟨HM, Hx, Hd1, Hd2, Hd3⟩
  iapply (part6 X Wt K c v8 v9) $$ [HM Hd1 Hd2 Hw0]
  · iframe HM Hd1 Hd2 Hw0; iexact HC
  iintro ⟨HM, Hw0⟩
  iapply (part7 X Wt K c) $$ [HM Hw0 Hw1 HW]
  · iframe HM Hw0 Hw1 HW; iexact HC
  iintro %v199 %hv199 ⟨HM, Hw0, Hw1, HW⟩
  iapply (part8 X Wt K c v199 hv199) $$ [HM Hw0 Hw1 HW]
  · iframe HM Hw0 Hw1 HW; iexact HC
  iintro ⟨HM, Hw0, Hw1, HW⟩
  iapply (part9 X Wt K c) $$ [HM Hw0 Hw1 HW]
  · iframe HM Hw0 Hw1 HW; iexact HC
  iintro ⟨HM, Hw0, Hw1, HW⟩
  iapply (part10 X Wt K c) $$ [HM Hw0 Hw1 HW]
  · iframe HM Hw0 Hw1 HW; iexact HC
  iintro %v279 %hv279 ⟨HM, Hw0, Hw1, HW⟩
  ihave H8 := (Entails.of_eq (x8_rows c (xsh 3) (x8F X c)).symm) $$ [Ha3 Hb3 Hc3 Hd3]
  · iframe
  iapply (part11 X Wt sc K c v2 v279 hv279) $$ [HM Hw1 HW Hs H8 HA0 Ho0 Hi0]
  · iframe HM Hw1 HW Hs H8 HA0 Ho0 Hi0; iexact HC
  iintro ⟨HM, Hw1, HW, Hs, H8, HO0⟩
  iapply (part12 X K c v6 v8 v9) $$ [HM]
  · iframe HM; iexact HC
  iintro %a12 HM
  iapply (part13 X K c v6 v8 v9 a12.1 a12.2) $$ [HM]
  · iframe HM; iexact HC
  iintro HM
  iapply (part14 X K c v6 v8 v9) $$ [HM]
  · iframe HM; iexact HC
  iintro HM
  iapply (part15 X K c v6 v8 v9) $$ [HM]
  · iframe HM; iexact HC
  iintro HM
  iapply (part16 X K c v6 v8 v9) $$ [HM]
  · iframe HM; iexact HC
  iintro HM
  iapply (part17 X K c v6 v8 v9) $$ [HM]
  · iframe HM; iexact HC
  iintro HM
  iapply (part18 X K c v6 v8 v9) $$ [HM]
  · iframe HM; iexact HC
  iintro %c1 HM
  iapply (part19 X Wt sc K c v6 v9 c1) $$ [HM HW HA1]
  · iframe HM HW HA1; iexact HC
  iintro ⟨HM, HW, HA1⟩
  iapply (part20 X Wt sc K c v8) $$ [HM HW HO0 HA1 Ho1 Hi1 Hi3]
  · iframe HM HW HO0 HA1 Ho1 Hi1 Hi3; iexact HC
  iintro %v546 %hv546 ⟨HM, HW, HO0, HO1, Hd0⟩
  iapply (part21 X Wt sc K c v8 v9 v546 hv546) $$ [HM HW HO1 Hi4]
  · iframe HM HW HO1 Hi4; iexact HC
  iintro ⟨HM, HW, HO1, He1⟩
  iapply (part22 X K c v6 v9) $$ [HM]
  · iframe HM; iexact HC
  iintro HM
  iapply (part23 X K c v6 v8 v9) $$ [HM]
  · iframe HM; iexact HC
  iintro HM
  iapply (part24 X K c v6) $$ [HM]
  · iframe HM; iexact HC
  iintro HM
  iapply (part25 X K c v8 v9) $$ [HM]
  · iframe HM; iexact HC
  iintro HM
  iapply (part26 X Wt sc K c v9 v13) $$ [HM HW HO0]
  · iframe HM HW HO0; iexact HC
  iintro ⟨HM, HW, He3, HA0, Ho0⟩
  iapply (part27 X Wt sc K c v14) $$ [HM HW HA0 Ho0 Hi2 HO1 Hi7]
  · iframe HM HW HA0 Ho0 Hi2 HO1 Hi7; iexact HC
  iintro %v732 %hv732 ⟨HM, HW, HO0, HO1, He4⟩
  iapply (part28 X Wt sc K c v6 v18 v732 hv732) $$ [HM HW HO0 HO1 Hi5]
  · iframe HM HW HO0 HO1 Hi5; iexact HC
  iintro ⟨HM, HW, HO0, He2, He7, HA1, Ho1⟩
  iapply (part29 X Wt sc K c v8) $$ [HM HW HA1]
  · iframe HM HW HA1; iexact HC
  iintro ⟨HM, HW, HA1⟩
  iapply (part30 X Wt sc K c v9 v23) $$ [HM HW HA1 Ho1 Hi6]
  · iframe HM HW HA1 Ho1 Hi6; iexact HC
  iintro ⟨HM, HW, HO1⟩
  iapply (part31 X K c) $$ [HM]
  · iframe HM; iexact HC
  iintro HM
  iapply (part32 X K c) $$ [HM]
  · iframe HM; iexact HC
  iintro HM
  iapply (part33 X K c) $$ [HM]
  · iframe HM; iexact HC
  iintro HM
  iapply (part34 X K c) $$ [HM]
  · iframe HM; iexact HC
  iintro HM
  iapply (part35 X K c) $$ [HM]
  · iframe HM; iexact HC
  iintro HM
  iapply (part36 X K c) $$ [HM]
  · iframe HM; iexact HC
  iintro HM
  iapply (part37 X Wt sc K c) $$ [HM HO0 HO1]
  · iframe HM HO0 HO1; iexact HC
  iintro ⟨HM, He5, He6, HA0, HA1⟩
  iapply wp_done
  iapply Hk $$ [HM Hbar Hx Hs H8 HW Hw0 Hw1 HA0 HA1 Hd0 He1 He2 He3 He4 He5 He6 He7]
  unfold End
  ihave Hw0 := (WGot_idle Wt c 0 3072) $$ Hw0
  ihave Hw1 := (WGot_idle Wt c 1 3584) $$ Hw1
  iframe

end Cert.Ring

end
-- ==== Proof.Whole.lean ====
/-
Whole buffers and the parts the body works on: the parts dealt out before the body, and put back together after it.
-/
module

public import proofs.«01_k».proof.Proof.Body

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight Flight_mono wp_dmaLocal wp_waitLocalO)

variable {F : FTy → Type} [FloatOps F]

local notation "𝕄" => MT nD τ sig Unit (Elt F) ℕ UU ℕ

variable (X : Dev nD → S512x4096.Idx → Elt F .f32) (Wt : Dev nD → S4096x1024.Idx → Elt F .f32) (sc : Dev nD → Elt F .f32)

variable (K : GSem nD τ sig → ℕ)

/-! ## The communication buffer -/

theorem comm_deal (c : Dev nD) (f : S7x512x4096.Idx → Elt F .fp8e5m2) :
    (cmM.view.loc (c : Thread nD τ) ↦[Finset.univ]{fullShare} f : sProp 𝕄) ⊢ bigSep Finset.univ fun t : Fin 27 => iprop(∃ f, cmPt (F := F) c fullShare (dstA t) f) := by
  have e : (Finset.univ : Finset S7x512x4096.Idx) = (Finset.univ : Finset (Fin 27)).biUnion fun t => inA (dstA t) := by
    have h : (Finset.univ : Finset (Fin 27)).biUnion dstA = Finset.univ := by decide
    ext i
    have hi := h.symm.subset (Finset.mem_univ ((i 0, cut (i 1).val) : Atom))
    obtain ⟨t, -, ht⟩ := Finset.mem_biUnion.1 hi
    simp only [Finset.mem_univ, true_iff]
    exact Finset.mem_biUnion.2 ⟨t, Finset.mem_univ _, (mem_inA _ _).2 ht⟩
  rw [e, pointsTo_biUnion _ _ fun t _ t' _ h => inA_disjoint (dstA_disjoint t t' h)]
  refine BI.bigSep_mono fun t _ => ?_
  show cmPt c fullShare (dstA t) f ⊢ iprop(∃ f, cmPt (F := F) c fullShare (dstA t) f)
  iintro H
  iexists f; iexact H

/-- What is lent to the later transfers, put together. -/
theorem lent_join (c : Dev nD) (f : S7x512x4096.Idx → Elt F .fp8e5m2) :
    (bigSep (Finset.univ.filter fun t : Fin 27 => ¬ t.val < 12) fun t => (cmPt c fullShare.left (srcA t) f : sProp 𝕄))
      ⊢ cmPt c fullShare.left (lentA 27) f := by
  have e : inA (lentA 27) = (Finset.univ.filter fun t : Fin 27 => ¬ t.val < 12).biUnion fun t => inA (srcA t) := by
    have h : lentA 27 = (Finset.univ.filter fun t : Fin 27 => ¬ t.val < 12).biUnion srcA := by decide
    ext i
    rw [h, mem_inA]
    simp only [Finset.mem_biUnion, mem_inA]
  have hd : ∀ t ∈ Finset.univ.filter (fun t : Fin 27 => ¬ t.val < 12), ∀ t' ∈ Finset.univ.filter (fun t : Fin 27 => ¬ t.val < 12), t ≠ t' → Disjoint (srcA t) (srcA t') := by decide
  show _ ⊢ (cmM.view.loc (c : Thread nD τ) ↦[inA (lentA 27)]{fullShare.left} f : sProp 𝕄)
  rw [e, pointsTo_biUnion _ _ fun t ht t' ht' h => inA_disjoint (hd t ht t' ht' h)]

theorem comm_join (c : Dev nD) (f : S7x512x4096.Idx → Elt F .fp8e5m2) :
    iprop(cmPt c fullShare.left (lentA 27) f ∗ cmPt c fullShare.left (gotA 27 \ lentA 27) f ∗ cmPt c fullShare.right (gotA 27) f)
      ⊢ (cmM.view.loc (c : Thread nD τ) ↦[Finset.univ]{fullShare} f : sProp 𝕄) := by
  have hg : lentA 27 ∪ (gotA 27 \ lentA 27) = Finset.univ := by decide
  have hg' : gotA 27 = Finset.univ := by decide
  have hj : iprop(cmPt c fullShare.left (lentA 27) f ∗ cmPt c fullShare.left (gotA 27 \ lentA 27) f) ⊢ (cmM.view.loc (c : Thread nD τ) ↦[Finset.univ]{fullShare.left} f : sProp 𝕄) :=
    (cmPt_join Finset.disjoint_sdiff).trans (Entails.of_eq (by rw [cmPt, hg, inA_univ]))
  have hr : cmPt c fullShare.right (gotA 27) f ⊢ (cmM.view.loc (c : Thread nD τ) ↦[Finset.univ]{fullShare.right} f : sProp 𝕄) :=
    Entails.of_eq (by rw [cmPt, hg', inA_univ])
  have hs : (cmM.view.loc (c : Thread nD τ) ↦[Finset.univ]{fullShare} f : sProp 𝕄) ⊣⊢ iprop((cmM.view.loc (c : Thread nD τ) ↦[Finset.univ]{fullShare.left} f) ∗ cmM.view.loc (c : Thread nD τ) ↦[Finset.univ]{fullShare.right} f) :=
    pointsTo_share (PosShare.mem_left_op_right fullShare)
  iintro ⟨H1, H2, H3⟩
  ihave H := hj $$ [H1 H2]
  · isplitl [H1]; · iexact H1
    iexact H2
  iapply hs.2
  isplitl [H]; · iexact H
  iapply hr; iexact H3

/-! ## The narrowed `x` -/

/-- The three quarters lent to the first twelve transfers, put together. -/
theorem x8_lent (c : Dev nD) (f : S512x4096.Idx → Elt F .fp8e5m2) :
    (bigSep (Finset.univ.filter fun t : Fin 27 => t.val < 12) fun t => (x8Pt c (dsh t) (rowsX (lo t) (nr t)) f : sProp 𝕄))
      ⊢ iprop(x8Pt c (xsh 0) Finset.univ f ∗ x8Pt c (xsh 1) Finset.univ f ∗ x8Pt c (xsh 2) Finset.univ f) := by
  have e : (Finset.univ.filter fun t : Fin 27 => t.val < 12) = insert 0 (insert 1 (insert 2 (insert 3 (insert 4 (insert 5 (insert 6 (insert 7 (insert 8 (insert 9 (insert 10 {11})))))))))) := by decide
  rw [x8_rows c (xsh 0), x8_rows c (xsh 1), x8_rows c (xsh 2), e]
  iterate 11 rw [BI.bigSep_insert (by decide)]
  rw [BI.bigSep_singleton]
  show iprop(x8Pt c (xsh 0) (rowsX 0 128) f ∗ x8Pt c (xsh 0) (rowsX 128 128) f ∗ x8Pt c (xsh 0) (rowsX 256 128) f ∗ x8Pt c (xsh 0) (rowsX 384 128) f
    ∗ x8Pt c (xsh 1) (rowsX 0 128) f ∗ x8Pt c (xsh 1) (rowsX 128 128) f ∗ x8Pt c (xsh 1) (rowsX 256 128) f ∗ x8Pt c (xsh 1) (rowsX 384 128) f
    ∗ x8Pt c (xsh 2) (rowsX 0 128) f ∗ x8Pt c (xsh 2) (rowsX 128 128) f ∗ x8Pt c (xsh 2) (rowsX 256 128) f ∗ x8Pt c (xsh 2) (rowsX 384 128) f) ⊢ _
  iintro ⟨A0, A1, A2, A3, B0, B1, B2, B3, C0, C1, C2, C3⟩
  isplitl [A0 A1 A2 A3]; · iframe
  isplitl [B0 B1 B2 B3]; · iframe
  iframe

theorem x8_join (c : Dev nD) :
    iprop((bigSep (Finset.univ.filter fun t : Fin 27 => t.val < 12) fun t => (x8Pt c (dsh t) (rowsX (lo t) (nr t)) (x8F X c) : sProp 𝕄)) ∗ x8Keep X c)
      ⊢ x8Pt c fullShare Finset.univ (x8F X c) := by
  iintro ⟨H, Hk⟩
  ihave H := (x8_lent c (x8F X c)) $$ H
  icases H with ⟨H0, H1, H2⟩
  iapply (x8_quarters c Finset.univ (x8F X c)).2
  iframe

/-! ## The two-slot buffers -/

theorem slots_cover : slotB 0 0 512 ∪ slotB 1 0 512 = Finset.univ := by
  ext i
  have h0 : (i 0).val < 2 := (i 0).isLt
  have h1 : (i 1).val < 512 := (i 1).isLt
  simp only [slotB, Finset.mem_union, Finset.mem_filter, Finset.mem_univ, true_and, iff_true]
  omega
theorem slots_apart : Disjoint (slotB 0 0 512) (slotB 1 0 512) := by
  rw [Finset.disjoint_left]
  intro i h h'
  have h := (Finset.mem_filter.1 h).2.1
  have h' := (Finset.mem_filter.1 h').2.1
  omega

theorem wb_split (c : Dev nD) (f : S2x512x1024.Idx → Elt F .f32) :
    (wbM.view.loc (c : Thread nD τ) ↦[Finset.univ]{fullShare} f : sProp 𝕄) ⊢ iprop(wbPt c 0 f ∗ wbPt c 1 f) := by
  rw [← slots_cover]; exact (pointsTo_union slots_apart).1
theorem wb_join (c : Dev nD) (f g : S2x512x1024.Idx → Elt F .f32) :
    iprop(wbPt c 0 f ∗ wbPt c 1 g) ⊢ (iprop(∃ h, wbM.view.loc (c : Thread nD τ) ↦[Finset.univ]{fullShare} h) : sProp 𝕄) := by
  rw [← slots_cover]
  have hj : iprop(wbPt c 0 f ∗ wbPt c 1 g) ⊢ (wbM.view.loc (c : Thread nD τ) ↦[slotB 0 0 512 ∪ slotB 1 0 512]{fullShare} ((slotB 1 0 512).piecewise g f) : sProp 𝕄) :=
    pointsTo_join slots_apart
  iintro H
  ihave H := hj $$ H
  iexists ((slotB 1 0 512).piecewise g f)
  iexact H
theorem ac_split (c : Dev nD) (f : S2x512x1024.Idx → Elt F .f32) :
    (acM.view.loc (c : Thread nD τ) ↦[Finset.univ]{fullShare} f : sProp 𝕄) ⊢ iprop(acPt c 0 f ∗ acPt c 1 f) := by
  rw [← slots_cover]; exact (pointsTo_union slots_apart).1
theorem ac_join (c : Dev nD) (f g : S2x512x1024.Idx → Elt F .f32) :
    iprop(acPt c 0 f ∗ acPt c 1 g) ⊢ (iprop(∃ h, acM.view.loc (c : Thread nD τ) ↦[Finset.univ]{fullShare} h) : sProp 𝕄) := by
  rw [← slots_cover]
  have hj : iprop(acPt c 0 f ∗ acPt c 1 g) ⊢ (acM.view.loc (c : Thread nD τ) ↦[slotB 0 0 512 ∪ slotB 1 0 512]{fullShare} ((slotB 1 0 512).piecewise g f) : sProp 𝕄) :=
    pointsTo_join slots_apart
  iintro H
  ihave H := hj $$ H
  iexists ((slotB 1 0 512).piecewise g f)
  iexact H

/-! ## The second operand and the result -/

theorem w_halves (c : Dev nD) (f : S4096x1024.Idx → Elt F .f32) :
    (wM.view.loc (c : Thread nD τ) ↦[Finset.univ]{fullShare} f : sProp 𝕄) ⊣⊢ iprop(wPt c 0 Finset.univ f ∗ wPt c 1 Finset.univ f) :=
  pointsTo_share (PosShare.mem_left_op_right fullShare)

theorem rowsW_cover : (Finset.univ : Finset (Dev nD)).biUnion (fun e => rowsW (512 * e.val) 512) = Finset.univ := by
  ext i
  simp only [Finset.mem_biUnion, Finset.mem_univ, true_and, rowsW, Finset.mem_filter, iff_true]
  have h : (i 0).val < 4096 := (i 0).isLt
  exact ⟨(⟨(i 0).val / 512, by omega⟩ : Fin 8), by show 512 * ((i 0).val / 512) ≤ _; omega, by show _ < 512 * ((i 0).val / 512) + 512; omega⟩
theorem rowsW_apart (e e' : Dev nD) (h : e ≠ e') : Disjoint (rowsW (512 * e.val) 512) (rowsW (512 * e'.val) 512) := by
  rw [Finset.disjoint_left]
  intro i hi hi'
  have hi := (Finset.mem_filter.1 hi).2
  have hi' := (Finset.mem_filter.1 hi').2
  exact h (Fin.ext (by omega))

theorem bigSep_fin_eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = insert 0 (insert 1 (insert 2 (insert 3 (insert 4 (insert 5 (insert 6 {7})))))) from by decide]
  iterate 7 rw [BI.bigSep_insert (by decide)]
  rw [BI.bigSep_singleton]
  rfl

theorem xr_zero (c : Dev nD) : xr 0 c = c := by revert c; decide
theorem xr_inj (c : Dev nD) : Function.Bijective (fun k : Fin 8 => (xr k c : Dev nD)) := by revert c; decide

/-- The result's row blocks, in the order the device takes them. -/
theorem o_blocks (c : Dev nD) (f : S4096x1024.Idx → Elt F .f32) :
    (oPt c Finset.univ f : sProp 𝕄) = iprop(oPt c (rowsW (512 * c.val) 512) f ∗ oPt c (rowsW (512 * (xr 1 c).val) 512) f ∗ oPt c (rowsW (512 * (xr 2 c).val) 512) f
      ∗ oPt c (rowsW (512 * (xr 3 c).val) 512) f ∗ oPt c (rowsW (512 * (xr 4 c).val) 512) f ∗ oPt c (rowsW (512 * (xr 5 c).val) 512) f
      ∗ oPt c (rowsW (512 * (xr 6 c).val) 512) f ∗ oPt c (rowsW (512 * (xr 7 c).val) 512) f) := by
  rw [oPt, ← rowsW_cover, pointsTo_biUnion _ _ (fun a _ b _ h => rowsW_apart a b h), BI.bigSep_univ_equiv (Equiv.ofBijective _ (xr_inj c)), bigSep_fin_eight]
  show iprop(oPt c (rowsW (512 * (xr 0 c).val) 512) f ∗ _) = _
  rw [xr_zero]
  rfl

/-! ## Before the body -/

/-- A device's parts of the protocol, once its cells are open. -/
def Ghost (c : Dev nD) : sProp 𝕄 :=
  iprop((bigSep Finset.univ fun u : Fin 3 => iprop(dutyTok ER (barCell (xr (pm u) c)) 0 u ∗ reached ER (barCell (xr (pm u) c)) 0))
    ∗ (cred (tallyAt (barCell c) () 3) ∗ atPos ER (barCell c) 0 ∅ 0)
    ∗ (bigSep Finset.univ fun t : Fin 27 => outPre (F := F) c t)
    ∗ (bigSep Finset.univ fun t : Fin 27 => iprop(reached ER (recvCell t c) 0 ∗ cred (tallyAt (recvCell t c) () (N t)) ∗ atPos ER (recvCell t c) 0 ∅ 0)))

theorem bar_start (c : Dev nD) (f : S7x512x4096.Idx → Elt F .fp8e5m2) :
    iprop((∃ W, owes (c : Thread nD τ) (debtB c 0) W) ∗ Ghost c ∗ cmM.view.loc (c : Thread nD τ) ↦[Finset.univ]{fullShare} f) ⊢ (BarSt c 0 : sProp 𝕄) := by
  unfold Ghost BarSt
  rw [show (Finset.univ.filter fun u : Fin 3 => 0 ≤ u.val) = Finset.univ from by decide]
  iintro ⟨HO, ⟨Hb, Hc, Ho, Hi⟩, Hm⟩
  ihave Hm := (comm_deal c f) $$ Hm
  ihave Hi := (sep_out (Finset.univ : Finset (Fin 27)) (fun t => (reached ER (recvCell t c) 0 : sProp 𝕄)) (fun t => iprop(cred (tallyAt (recvCell t c) () (N t)) ∗ atPos ER (recvCell t c) 0 ∅ 0))) $$ Hi
  icases Hi with ⟨Hr, Hi⟩
  isplitl [HO]; · iexact HO
  isplitl [Hb Hm Hr]
  · ihave Hm := (sep_in (Finset.univ : Finset (Fin 27)) (fun t => iprop(∃ f, cmPt (F := F) c fullShare (dstA t) f)) (fun t => (reached ER (recvCell t c) 0 : sProp 𝕄))) $$ [Hm Hr]
    · isplitl [Hm]; · iexact Hm
      iexact Hr
    ihave Hm := (Entails.of_eq (by_dir (F := F) (fun t => iprop((∃ f, cmPt (F := F) c fullShare (dstA t) f) ∗ reached ER (recvCell t c) 0)))) $$ Hm
    have hmono : bigSep Finset.univ (fun u : Fin 3 => iprop((dutyTok ER (barCell (xr (pm u) c)) 0 u ∗ reached ER (barCell (xr (pm u) c)) 0)
        ∗ bigSep (Finset.univ.filter fun t : Fin 27 => dir t = u) fun t => iprop((∃ f, cmPt (F := F) c fullShare (dstA t) f) ∗ reached ER (recvCell t c) 0)))
        ⊢ bigSep Finset.univ (fun u : Fin 3 => barOut (F := F) c u) := BI.bigSep_mono fun u _ => by
      unfold barOut
      show iprop((dutyTok ER (barCell (xr (pm u) c)) 0 u ∗ reached ER (barCell (xr (pm u) c)) 0) ∗ _) ⊢ iprop(_ ∗ _ ∗ _)
      iintro ⟨⟨H1, H2⟩, H3⟩
      isplitl [H1]; · iexact H1
      isplitl [H2]; · iexact H2
      iexact H3
    iapply hmono
    iapply (sep_in (Finset.univ : Finset (Fin 3)) (fun u => iprop(dutyTok ER (barCell (xr (pm u) c)) 0 u ∗ reached ER (barCell (xr (pm u) c)) 0))
      (fun u => bigSep (Finset.univ.filter fun t : Fin 27 => dir t = u) fun t => iprop((∃ f, cmPt (F := F) c fullShare (dstA t) f) ∗ reached ER (recvCell t c) 0)))
    isplitl [Hb]; · iexact Hb
    iexact Hm
  isplitl [Hc]; · iexact Hc
  isplitl [Ho]; · iexact Ho
  have hi : bigSep Finset.univ (fun t : Fin 27 => iprop(cred (tallyAt (recvCell t c) () (N t)) ∗ atPos ER (recvCell t c) 0 ∅ 0)) ⊢ (bigSep Finset.univ (fun t : Fin 27 => inRes (F := F) t c 0) : sProp 𝕄) :=
    Entails.of_eq (BI.bigSep_congr fun t _ => by unfold inRes; rw [if_neg (Nat.not_lt_zero _)])
  iapply hi
  iexact Hi

/-- The local copies' counters, all at zero. -/
def LSems (c : Dev nD) : sProp 𝕄 :=
  iprop((semVal ((c : Thread nD τ), .dma (wS 0)) 0 ∗ semVal ((c : Thread nD τ), .dma (wS 1)) 0) ∗ (oSem c 0 ∗ oSem c 1))

/-- The scratch buffers, whole, at anything. -/
def Scr (c : Dev nD) : sProp 𝕄 :=
  iprop((∃ f, x8M.view.loc (c : Thread nD τ) ↦[Finset.univ]{fullShare} f) ∗ (∃ f, w8M.view.loc (c : Thread nD τ) ↦[Finset.univ]{fullShare} f)
    ∗ (∃ f, wbM.view.loc (c : Thread nD τ) ↦[Finset.univ]{fullShare} f) ∗ (∃ f, cmM.view.loc (c : Thread nD τ) ↦[Finset.univ]{fullShare} f)
    ∗ (∃ f, acM.view.loc (c : Thread nD τ) ↦[Finset.univ]{fullShare} f))

theorem start_of (c : Dev nD) (f : S4096x1024.Idx → Elt F .f32) :
    iprop((∃ W, owes (c : Thread nD τ) (debtB c 0) W) ∗ Ghost c ∗ Scr c ∗ LSems c ∗ xPt X c ∗ sPt sc c
      ∗ (wM.view.loc (c : Thread nD τ) ↦[Finset.univ]{fullShare} Wt c) ∗ oPt c Finset.univ f) ⊢ (Start X Wt sc c : sProp 𝕄) := by
  unfold Scr LSems Start
  iintro ⟨HO, Hg, ⟨⟨%f0, H0⟩, ⟨%f1, H1⟩, ⟨%f2, H2⟩, ⟨%f3, H3⟩, ⟨%f4, H4⟩⟩, ⟨⟨Hw0, Hw1⟩, Ho0, Ho1⟩, Hx, Hs, Hw, Ho⟩
  ihave Hbar := (bar_start c f3) $$ [HO Hg H3]
  · isplitl [HO]; · iexact HO
    isplitl [Hg]; · iexact Hg
    iexact H3
  ihave H0 := (Entails.of_eq (x8_rows c fullShare f0)) $$ H0
  icases H0 with ⟨X0, X1, X2, X3⟩
  ihave H1 := (W8_any Wt c f1) $$ H1
  ihave H2 := (wb_split c f2) $$ H2
  icases H2 with ⟨B0, B1⟩
  ihave H4 := (ac_split c f4) $$ H4
  icases H4 with ⟨A0, A1⟩
  ihave Hw := (w_halves c (Wt c)).1 $$ Hw
  icases Hw with ⟨W0, W1⟩
  ihave Ho := (Entails.of_eq (o_blocks c f)) $$ Ho
  icases Ho with ⟨O0, O1, O2, O3, O4, O5, O6, O7⟩
  isplitl [Hbar]; · iexact Hbar
  isplitl [Hx]; · iexact Hx
  isplitl [Hs]; · iexact Hs
  isplitl [X0 X1 X2 X3]
  · isplitl [X0]; · iexists f0; iexact X0
    isplitl [X1]; · iexists f0; iexact X1
    isplitl [X2]; · iexists f0; iexact X2
    iexists f0; iexact X3
  isplitl [H1]; · iexact H1
  isplitl [B0 B1 Hw0 Hw1 W0 W1]
  · unfold WIdle
    isplitl [B0 Hw0 W0]
    · isplitl [B0]; · iexists f2; iexact B0
      isplitl [Hw0]; · iexact Hw0
      iexact W0
    · isplitl [B1]; · iexists f2; iexact B1
      isplitl [Hw1]; · iexact Hw1
      iexact W1
  isplitl [A0 Ho0]
  · isplitl [A0]; · iapply (Acc_any X Wt sc c 0 c f4); iexact A0
    iexact Ho0
  isplitl [A1 Ho1]
  · isplitl [A1]; · iapply (Acc_any X Wt sc c 1 (xr 1 c) f4); iexact A1
    iexact Ho1
  isplitl [O0]; · iexists f; iexact O0
  isplitl [O1]; · iexists f; iexact O1
  isplitl [O2]; · iexists f; iexact O2
  isplitl [O3]; · iexists f; iexact O3
  isplitl [O4]; · iexists f; iexact O4
  isplitl [O5]; · iexists f; iexact O5
  isplitl [O6]; · iexists f; iexact O6
  iexists f; iexact O7

/-! ## After the body -/

theorem comm_end (c : Dev nD) :
    (Comm X c 27 27 27 : sProp 𝕄) ⊢ iprop((∃ W, owes (c : Thread nD τ) (0 : CellTallies nD τ sig Unit) W)
      ∗ (bigSep Finset.univ fun t : Fin 27 => semVal (sendCell t c) 0) ∗ (bigSep Finset.univ fun t : Fin 27 => semVal (recvCell t c) 0)
      ∗ (bigSep (Finset.univ.filter fun t : Fin 27 => t.val < 12) fun t => (x8Pt c (dsh t) (rowsX (lo t) (nr t)) (x8F X c) : sProp 𝕄))
      ∗ cmM.view.loc (c : Thread nD τ) ↦[Finset.univ]{fullShare} commF X c) := by
  have ho : (bigSep Finset.univ fun t : Fin 27 => outRes X t c 27 27) ⊢ (bigSep Finset.univ fun t : Fin 27 => iprop(sendPay X t c ∗ semVal (sendCell t c) 0) : sProp 𝕄) :=
    Entails.of_eq <| BI.bigSep_congr fun t _ => by unfold outRes; rw [if_pos (pos_lt t), if_pos t.isLt]
  have hi : (bigSep Finset.univ fun t : Fin 27 => inRes (F := F) t c 27) ⊢ (bigSep Finset.univ fun t : Fin 27 => semVal (recvCell t c) 0 : sProp 𝕄) :=
    Entails.of_eq <| BI.bigSep_congr fun t _ => by unfold inRes; rw [if_pos (wpos_lt t)]
  have hp : (bigSep Finset.univ fun t : Fin 27 => sendPay X t c)
      ⊢ (iprop((bigSep (Finset.univ.filter fun t : Fin 27 => t.val < 12) fun t => (x8Pt c (dsh t) (rowsX (lo t) (nr t)) (x8F X c) : sProp 𝕄))
        ∗ bigSep (Finset.univ.filter fun t : Fin 27 => ¬ t.val < 12) fun t => (cmPt c fullShare.left (srcA t) (commF X c) : sProp 𝕄)) : sProp 𝕄) := by
    rw [← Finset.filter_union_filter_not_eq (fun t : Fin 27 => t.val < 12) Finset.univ, BI.bigSep_union (Finset.disjoint_filter_filter_not _ _ _)]
    refine BI.sep_mono (Entails.of_eq (BI.bigSep_congr fun t ht => ?_)) (Entails.of_eq (BI.bigSep_congr fun t ht => ?_))
    · unfold sendPay; rw [if_pos (Finset.mem_filter.1 ht).2]
    · unfold sendPay; rw [if_neg (Finset.mem_filter.1 ht).2]
  unfold Comm
  rw [debt_end]
  iintro ⟨HO, Ho, Hi, Hl, Hr⟩
  ihave Ho := ho $$ Ho
  ihave Ho := (sep_out (Finset.univ : Finset (Fin 27)) (fun t => sendPay X t c) (fun t => (semVal (sendCell t c) 0 : sProp 𝕄))) $$ Ho
  icases Ho with ⟨Hp, Hs⟩
  ihave Hp := hp $$ Hp
  icases Hp with ⟨Hx, Hc⟩
  ihave Hc := (lent_join c (commF X c)) $$ Hc
  isplitl [HO]; · iexact HO
  isplitl [Hs]; · iexact Hs
  isplitl [Hi]; · iapply hi; iexact Hi
  isplitl [Hx]; · iexact Hx
  iapply (comm_join c (commF X c))
  isplitl [Hc]; · iexact Hc
  isplitl [Hl]; · iexact Hl
  iexact Hr

theorem end_to (c : Dev nD) :
    (End X Wt sc c : sProp 𝕄) ⊢ iprop((∃ W, owes (c : Thread nD τ) (0 : CellTallies nD τ sig Unit) W) ∗ semVal (barCell c) 0
      ∗ (LSems c ∗ (bigSep Finset.univ fun t : Fin 27 => semVal (sendCell t c) 0) ∗ (bigSep Finset.univ fun t : Fin 27 => semVal (recvCell t c) 0))
      ∗ Scr c ∗ xPt X c ∗ sPt sc c
      ∗ (wM.view.loc (c : Thread nD τ) ↦[Finset.univ]{fullShare} Wt c) ∗ oPt c Finset.univ (outF X Wt sc c)) := by
  rw [o_blocks c (outF X Wt sc c)]
  unfold End WIdle W8 Acc Scr LSems
  iintro ⟨⟨Hc, Hb⟩, Hx, Hs, Hk, ⟨%f1, -, H1⟩, ⟨⟨⟨%g0, B0⟩, Hw0, W0⟩, ⟨%g1, B1⟩, Hw1, W1⟩, ⟨⟨%h0, -, A0⟩, Ho0⟩, ⟨⟨%h1, -, A1⟩, Ho1⟩, HO⟩
  ihave Hc := (comm_end X c) $$ Hc
  icases Hc with ⟨Hw, Hse, Hre, Hxl, Hcm⟩
  ihave H0 := (x8_join X c) $$ [Hxl Hk]
  · isplitl [Hxl]; · iexact Hxl
    iexact Hk
  ihave HB := (wb_join c g0 g1) $$ [B0 B1]
  · isplitl [B0]; · iexact B0
    iexact B1
  ihave HA := (ac_join c h0 h1) $$ [A0 A1]
  · isplitl [A0]; · iexact A0
    iexact A1
  ihave HW := (w_halves c (Wt c)).2 $$ [W0 W1]
  · isplitl [W0]; · iexact W0
    iexact W1
  isplitl [Hw]; · iexact Hw
  isplitl [Hb]; · iexact Hb
  isplitl [Hw0 Hw1 Ho0 Ho1 Hse Hre]
  · isplitl [Hw0 Hw1 Ho0 Ho1]
    · isplitl [Hw0 Hw1]
      · isplitl [Hw0]; · iexact Hw0
        iexact Hw1
      · isplitl [Ho0]; · iexact Ho0
        iexact Ho1
    isplitl [Hse]; · iexact Hse
    iexact Hre
  isplitl [H0 H1 HB HA Hcm]
  · isplitl [H0]; · iexists (x8F X c); iexact H0
    isplitl [H1]; · iexists f1; iexact H1
    isplitl [HB]; · iexact HB
    isplitl [Hcm]; · iexists (commF X c); iexact Hcm
    iexact HA
  isplitl [Hx]; · iexact Hx
  isplitl [Hs]; · iexact Hs
  isplitl [HW]; · iexact HW
  iexact HO

end Cert.Ring

end
-- ==== Proof.Region.lean ====
/-
The kernel's region of @main: the proof data of its one point, the body's obligation, and the two segments of @main.
-/
module

public import proofs.«01_k».proof.Proof.Whole
public import proofs.«01_k».proof.Proof.Gen.KernelIdeal.Frame
public import Idealize.ShloMosaic.Lib.Pipeline.Kit
public import Idealize.ShloMosaic.Lib.Pipeline.Regions
public import Idealize.ShloMosaic.Lib.Pipeline.RegionTalk

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight Flight_mono wp_dmaLocal wp_waitLocalO)

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The buffers' contents: at launch, after the host operations, after the kernel -/

abbrev V₀ (c : Dev nD) : Valuation τ sig (Elt F) := fun b => m (c, b)
abbrev V₁ (c : Dev nD) : Valuation τ sig (Elt F) := StableHlo.after hostOps0 (V₀ m c)

/-- Device `c`'s block of `x`, its block of the second operand, and the product of the two scales. -/
def Xm (c : Dev nD) : S512x4096.Idx → Elt F .f32 := V₁ m c main_arg0
def Wm (c : Dev nD) : S4096x1024.Idx → Elt F .f32 := V₁ m c main_arg1
def Sm (c : Dev nD) : Elt F .f32 := (V₁ m c main_v2 : S1x1.Idx → Elt F .f32) (ix2 0 0)

/-- What the kernel leaves in the result on device `c`. -/
abbrev res (c : Dev nD) : S4096x1024.Idx → Elt F .f32 := outF (Xm m) (Wm m) (Sm m) c

abbrev V₂ (c : Dev nD) : Valuation τ sig (Elt F) := Function.update (V₁ m c) (Proc.devRef .tc main_v3) (res m c)
theorem V₂_out (c : Dev nD) : V₂ m c main_v3 = res m c := Function.update_self ..
theorem V₂_of_ne (c : Dev nD) {b : DevRef τ sig} (h : b ≠ Proc.devRef .tc main_v3) : V₂ m c b = V₁ m c b := Function.update_of_ne h ..

/-- Every buffer not scoped to the kernel; those of them the body addresses itself. -/
def bufs : Finset (DevRef τ sig) := (StableHlo.tcRefs τ sig).filter fun b => ¬ b.isScoped
def hbufs : Finset (DevRef τ sig) := {Proc.devRef .tc main_arg1, Proc.devRef .tc main_v3}

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem hbufs_eq (c : Dev nD) (W : Valuation τ sig (Elt F)) : (StableHlo.held (c : Thread nD τ) hbufs W : sProp 𝕄)
    = iprop((wM.view.loc (c : Thread nD τ) ↦[Finset.univ]{fullShare} W main_arg1) ∗ oPt c Finset.univ (W main_v3)) := by
  unfold StableHlo.held
  rw [bigSep_eq_bigSepL_of_eq [Proc.devRef .tc main_arg1, Proc.devRef .tc main_v3] (by decide) (by decide)]
  rfl

theorem arrs_sub : Pipeline.arrRefs (τ := τ) spec0 ⊆ bufs := by decide
theorem hbufs_sub : hbufs ⊆ bufs \ Pipeline.arrRefs (τ := τ) spec0 := by decide

/-! ## The kernel's own semaphores -/

abbrev SemIx : Type := Fin 4 ⊕ (Fin 27 ⊕ Fin 27)
abbrev lsem : Fin 4 → DmaSem sig := ![wS 0, wS 1, oS 0, oS 1]
abbrev osem : SemIx → SemLoc sig := fun | .inl i => .dma (lsem i) | .inr (.inl t) => .dma (sendS t) | .inr (.inr t) => .dma (recvS t)

theorem osem_ok : Pipeline.OwnSemFacts spec0 osem := by decide +kernel

theorem bigSep_fin_four (Φ : Fin 4 → sProp 𝕄) : bigSep Finset.univ Φ = iprop((Φ 0 ∗ Φ 1) ∗ (Φ 2 ∗ Φ 3)) := by
  rw [show (Finset.univ : Finset (Fin 4)) = {0, 1} ∪ {2, 3} from by decide, BI.bigSep_union (by decide), BI.bigSep_insert (by decide), BI.bigSep_singleton,
    BI.bigSep_insert (by decide), BI.bigSep_singleton]
  rfl

theorem ownSems_eq (c : Dev nD) : (Pipeline.ownSems0 osem c : sProp 𝕄)
    = iprop(LSems c ∗ (bigSep Finset.univ fun t : Fin 27 => semVal (sendCell t c) 0) ∗ (bigSep Finset.univ fun t : Fin 27 => semVal (recvCell t c) 0)) := by
  unfold Pipeline.ownSems0
  rw [BI.bigSep_univ_sum, BI.bigSep_univ_sum, bigSep_fin_four]
  rfl

theorem scoped_eq (c : Dev nD) : (Pipeline.scopedRest (Ix := Unit) (Name := ℕ) (U := UU) (Lvl := ℕ) (Val := Elt F) spec0 c : sProp 𝕄) = Scr c :=
  scopedRest0_eq c

/-! ## The proof data -/

/-- What a device holds of the protocol from launch: its barrier cell's position, the right to open its send and receive
    cells, and the tokens of the payments it makes. -/
def Tok (c : Dev nD) : sProp 𝕄 :=
  iprop(atPos ER (barCell c) 0 ∅ 0 ∗ ((bigSep Finset.univ fun t : Fin 27 => openTok ER (sendCell t c)) ∗ bigSep Finset.univ fun t : Fin 27 => openTok ER (recvCell t c))
    ∗ (bigSep Finset.univ fun u : Fin 3 => dutyTok ER (barCell (xr (pm u) c)) 0 u)
    ∗ (bigSep Finset.univ fun t : Fin 27 => dutyTok ER (sendCell t c) 0 0) ∗ bigSep Finset.univ fun t : Fin 27 => dutyTok ER (recvCell t (peer t c)) 0 0)

def Tk (c : Dev nD) : sProp 𝕄 :=
  iprop((∃ K, Inv (Xm m) K ∗ (bigSep Finset.univ fun u : Fin 3 => reached ER (barCell (xr (pm u) c)) 0) ∗ Tok (F := F) c)
    ∗ cred (tallyAt (barCell c) () 3) ∗ bigSep Finset.univ fun t : Fin 27 => cred (tallyAt (recvCell t c) () (N t)))
def Xk (c : Dev nD) : sProp 𝕄 := iprop((∃ K, Ctx (Xm m) K) ∗ Ghost (F := F) c ∗ LSems (F := F) c)
def Yk (c : Dev nD) : sProp 𝕄 := semVal (barCell c) 0

/-- Before the one point, and after it. -/
def PhiA (c : Dev nD) : sProp 𝕄 :=
  iprop(Xk m c ∗ Scr (F := F) c ∗ (∃ r, prngReg c r) ∗ (wM.view.loc (c : Thread nD τ) ↦[Finset.univ]{fullShare} Wm m c) ∗ ∃ f, oPt (F := F) c Finset.univ f)
def PhiB (c : Dev nD) : sProp 𝕄 :=
  iprop(Yk (F := F) c ∗ (LSems (F := F) c ∗ (bigSep Finset.univ fun t : Fin 27 => semVal (sendCell t c) 0) ∗ (bigSep Finset.univ fun t : Fin 27 => semVal (recvCell t c) 0))
    ∗ Scr (F := F) c ∗ (∃ r, prngReg c r) ∗ (wM.view.loc (c : Thread nD τ) ↦[Finset.univ]{fullShare} Wm m c) ∗ oPt c Finset.univ (res m c))

abbrev O₀ (c : Dev nD) : CellTallies nD τ sig Unit := debtB c 0

def dat (c : Dev nD) : Dat τ (Elt F) Unit ℕ UU ℕ cfg0 c where
  A w := V m c (Pipeline.arrRef spec0 w)
  after w _ := match w with | 0 => Xm m c | 1 => fun _ => Sm m c | ⟨_ + 2, h⟩ => absurd h (Nat.not_lt.2 (Nat.le_add_left _ _))
  Φ t := if t.val = 0 then PhiA m c else PhiB m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat m

theorem owed_first (c : Dev nD) : (dat m c).owed (Fin.castSucc t0_0) = O₀ c := rfl
theorem owed_last (c : Dev nD) : (dat m c).owed (Fin.succ t0_0) = 0 := rfl

theorem owesAt_intro (c : Dev nD) (t : Fin (cfg0.N + 1)) (O : CellTallies nD τ sig Unit) (h0 : (dat m c).owed t = O) :
    iprop(∃ W, owes (c : Thread nD τ) O W) ⊢ ((dat m c).owesAt () t : sProp 𝕄) := by
  unfold Dat.owesAt Pipeline.owesWithin Dat.bound
  rw [h0, show (dat m c).recorded t = Set.univ from rfl]
  iintro ⟨%W, HO⟩; iexists W
  isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-! ## The staged blocks are the whole arrays -/

theorem blk0_eq (c : Dev nD) (t : Fin cfg0.N) : iblk m c 0 t = Xm m c := by
  unfold iblk Xm
  funext x
  rw [View.read_apply]
  show V m c main_arg0 _ = V₁ m c main_arg0 x
  refine congrArg _ (funext fun a => Fin.ext ?_)
  show 0 * _ + 1 * (x a).val = (x a).val
  omega
theorem blk1_eq (c : Dev nD) (t : Fin cfg0.N) : iblk m c 1 t = fun _ => Sm m c := by
  unfold iblk Sm
  funext x
  rw [View.read_apply]
  show (V m c main_v2 : S1x1.Idx → Elt F .f32) _ = (V₁ m c main_v2 : S1x1.Idx → Elt F .f32) (ix2 0 0)
  refine congrArg _ (funext fun a => Fin.ext ?_)
  have h : ∀ i : S1x1.Idx, ∀ a, (i a).val = 0 := fun i a => by
    have : (i a).val < S1x1.size a := (i a).isLt
    have : S1x1.size a = 1 := (by decide : ∀ a, S1x1.size a = 1) a
    omega
  exact (h _ a).trans (h _ a).symm

theorem before0 (c : Dev nD) (t : Fin cfg0.N) (d) : (dat m c).before 0 t d = Xm m c :=
  ((dat m c).before_fetched 0 t (fetch0_0 t) d).trans (blk0_eq m c t)
theorem before1 (c : Dev nD) (t : Fin cfg0.N) (d) : (dat m c).before 1 t d = fun _ => Sm m c :=
  ((dat m c).before_fetched 1 t (fetch0_1 t) d).trans (blk1_eq m c t)

theorem owns_x (c : Dev nD) (t : Fin cfg0.N) (f : S512x4096.Idx → Elt F .f32) :
    (owns (c : Thread nD τ) ((cfg0.win 0).stage (cfg0.slots t 0)) fullShare f : sProp 𝕄) = xM.view.loc (c : Thread nD τ) ↦[Finset.univ]{fullShare} f :=
  owns_whole (c : Thread nD τ) cc0_stg0_0 fullShare f
theorem owns_s (c : Dev nD) (t : Fin cfg0.N) (f : S1x1.Idx → Elt F .f32) :
    (owns (c : Thread nD τ) ((cfg0.win 1).stage (cfg0.slots t 1)) fullShare f : sProp 𝕄) = sM.view.loc (c : Thread nD τ) ↦[Finset.univ]{fullShare} f :=
  owns_whole (c : Thread nD τ) cc0_stg1_0 fullShare f

/-! ## The body's obligation -/

theorem point (c : Dev nD) (t : Fin cfg0.N) :
    iprop(PhiA m c ∗ (∃ W, owes (c : Thread nD τ) (O₀ c) W) ∗ xPt (Xm m) c ∗ sPt (Sm m) c)
      ⊢ WP c (bodyAt0 t) (fun _ => iprop(PhiB m c ∗ (∃ W, owes (c : Thread nD τ) (0 : CellTallies nD τ sig Unit) W) ∗ xPt (Xm m) c ∗ sPt (Sm m) c)) := by
  unfold PhiA PhiB Xk Yk
  iintro ⟨⟨⟨⟨%K, HC⟩, Hg, Hl⟩, Hscr, Hp, Hw, ⟨%f, Ho⟩⟩, HO, Hx, Hs⟩
  ihave Hst := (start_of (Xm m) (Wm m) (Sm m) c f) $$ [HO Hg Hscr Hl Hx Hs Hw Ho]
  · isplitl [HO]; · iexact HO
    isplitl [Hg]; · iexact Hg
    isplitl [Hscr]; · iexact Hscr
    isplitl [Hl]; · iexact Hl
    isplitl [Hx]; · iexact Hx
    isplitl [Hs]; · iexact Hs
    isplitl [Hw]; · iexact Hw
    iexact Ho
  iapply (run (Xm m) (Wm m) (Sm m) K c) $$ [HC Hst]
  · isplitl [HC]; · iexact HC
    iexact Hst
  iintro He
  ihave He := (end_to (Xm m) (Wm m) (Sm m) c) $$ He
  icases He with ⟨HO, Hb, Hss, Hscr, Hx, Hs, Hw, Ho⟩
  isplitl [Hb Hss Hscr Hp Hw Ho]
  · isplitl [Hb]; · iexact Hb
    isplitl [Hss]; · iexact Hss
    isplitl [Hscr]; · iexact Hscr
    isplitl [Hp]; · iexact Hp
    isplitl [Hw]; · iexact Hw
    iexact Ho
  isplitl [HO]; · iexact HO
  isplitl [Hx]; · iexact Hx
  iexact Hs

set_option maxRecDepth 16384 in
theorem body (c : Dev nD) : BodyObligation (dat (F := F) m c) defs₀ 𝒱₀ () Set.univ := fun t => by
  obtain rfl := fin_N0 t
  rw [bigSep_W0, bigSep_W0]
  rw [show (dat m c).Φ (Fin.castSucc t0_0) = PhiA m c from rfl, show (dat m c).Φ (Fin.succ t0_0) = PhiB m c from rfl]
  show iprop(PhiA m c ∗ (dat m c).owesAt () (Fin.castSucc t0_0)
      ∗ (∃ d, owns (c : Thread nD τ) ((cfg0.win 0).stage (cfg0.slots t0_0 0)) fullShare ((dat m c).before 0 t0_0 d))
      ∗ (∃ d, owns (c : Thread nD τ) ((cfg0.win 1).stage (cfg0.slots t0_0 1)) fullShare ((dat m c).before 1 t0_0 d)))
    ⊢ WP c (bodyAt0 t0_0) fun _ => iprop(PhiB m c ∗ (dat m c).owesAt () (Fin.succ t0_0)
      ∗ owns (c : Thread nD τ) ((cfg0.win 0).stage (cfg0.slots t0_0 0)) fullShare (Xm m c)
      ∗ owns (c : Thread nD τ) ((cfg0.win 1).stage (cfg0.slots t0_0 1)) fullShare (fun _ => Sm m c))
  rw [owns_x, owns_s]
  have hpost : ∀ u : PUnit, iprop(PhiB m c ∗ (∃ W, owes (c : Thread nD τ) (0 : CellTallies nD τ sig Unit) W) ∗ xPt (Xm m) c ∗ sPt (Sm m) c)
      ⊢ iprop(PhiB m c ∗ (dat m c).owesAt () (Fin.succ t0_0) ∗ xPt (Xm m) c ∗ sPt (Sm m) c) := fun _ => by
    iintro ⟨H1, H2, H3, H4⟩
    isplitl [H1]; · iexact H1
    isplitl [H2]; · iapply (owesAt_intro m c _ 0 (owed_last m c)); iexact H2
    isplitl [H3]; · iexact H3
    iexact H4
  refine BIBase.Entails.trans ?_ (wp_mono _ _ _ hpost)
  refine BIBase.Entails.trans ?_ (point m c t0_0)
  have h0 (d) : owns (c : Thread nD τ) ((cfg0.win 0).stage (cfg0.slots t0_0 0)) fullShare ((dat m c).before 0 t0_0 d) ⊢ (xPt (Xm m) c : sProp 𝕄) :=
    Entails.of_eq (by rw [before0, owns_x])
  have h1 (d) : owns (c : Thread nD τ) ((cfg0.win 1).stage (cfg0.slots t0_0 1)) fullShare ((dat m c).before 1 t0_0 d) ⊢ (sPt (Sm m) c : sProp 𝕄) :=
    Entails.of_eq (by rw [before1, owns_s])
  iintro ⟨H1, H2, ⟨%d, H3⟩, ⟨%d', H4⟩⟩
  isplitl [H1]; · iexact H1
  isplitl [H2]; · iapply (owesAt_elim m c _ (O₀ c) (owed_first m c)); iexact H2
  isplitl [H3]; · iapply (h0 d); iexact H3
  iapply (h1 d'); iexact H4

end Cert.Ring

end
-- ==== Proof.Seg.lean ====
/-
The two segments of @main: the host operations, and the region with its cells opened on entry.
-/
module

public import proofs.«01_k».proof.Proof.Region

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight Flight_mono wp_dmaLocal wp_waitLocalO)

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## Opening the send and receive cells -/

/-- A family of cells opened, each by the right to open it and its counter at zero. -/
theorem open_all (K : GSem nD τ sig → ℕ) (g : Fin 27 → GSem nD τ sig)
    (hI : ∀ t, (Inv (Xm m) K : sProp 𝕄) ⊢ cellInv ER (Rd (Xm m)) (K (g t)) (g t)) :
    iprop(Inv (Xm m) K ∗ (bigSep Finset.univ fun t : Fin 27 => openTok ER (g t)) ∗ (bigSep Finset.univ fun t : Fin 27 => semVal (g t) 0))
      ⊢ (|={Set.univ}=> iprop((bigSep Finset.univ fun t : Fin 27 => atPos ER (g t) 0 ∅ 0) ∗ (bigSep Finset.univ fun t : Fin 27 => reached ER (g t) 0)) : sProp 𝕄) := by
  have one (t : Fin 27) (_ : t ∈ (Finset.univ : Finset (Fin 27))) : iprop(Inv (Xm m) K ∗ (openTok ER (g t) ∗ semVal (g t) 0))
      ⊢ (|={Set.univ}=> iprop(atPos ER (g t) 0 ∅ 0 ∗ reached ER (g t) 0) : sProp 𝕄) := by
    iintro ⟨HI, Ho, Hs⟩
    iapply (Rounds.cell_open ER (Rd (Xm m)) (g := g t) (Set.mem_univ (K (g t))))
    isplitl [HI]; · iapply (hI t); iexact HI
    isplitl [Ho]; · iexact Ho
    iexact Hs
  have all := (bigSep_with_persistent (R := Inv (Xm m) K) one).trans (bigSep_fupd _ _)
  iintro ⟨HI, Ho, Hs⟩
  ihave H := (sep_in (Finset.univ : Finset (Fin 27)) (fun t => (openTok ER (g t) : sProp 𝕄)) (fun t => (semVal (g t) 0 : sProp 𝕄))) $$ [Ho Hs]
  · isplitl [Ho]; · iexact Ho
    iexact Hs
  imod all $$ [HI H] with H
  · isplitl [HI]; · iexact HI
    iexact H
  imodintro
  iapply (sep_out (Finset.univ : Finset (Fin 27)) (fun t => (atPos ER (g t) 0 ∅ 0 : sProp 𝕄)) (fun t => (reached ER (g t) 0 : sProp 𝕄))) $$ H

theorem outPre_in (c : Dev nD) :
    iprop((bigSep Finset.univ fun t : Fin 27 => dutyTok ER (sendCell t c) 0 0) ∗ (bigSep Finset.univ fun t : Fin 27 => dutyTok ER (recvCell t (peer t c)) 0 0)
      ∗ (bigSep Finset.univ fun t : Fin 27 => reached ER (sendCell t c) 0) ∗ (bigSep Finset.univ fun t : Fin 27 => atPos ER (sendCell t c) 0 ∅ 0))
      ⊢ (bigSep Finset.univ fun t : Fin 27 => outPre c t : sProp 𝕄) := by
  unfold outPre
  rw [bigSep_sep', bigSep_sep', bigSep_sep']
theorem inPre_in (c : Dev nD) :
    iprop((bigSep Finset.univ fun t : Fin 27 => reached ER (recvCell t c) 0) ∗ (bigSep Finset.univ fun t : Fin 27 => cred (tallyAt (recvCell t c) () (N t)))
      ∗ (bigSep Finset.univ fun t : Fin 27 => atPos ER (recvCell t c) 0 ∅ 0))
      ⊢ (bigSep Finset.univ fun t : Fin 27 => iprop(reached ER (recvCell t c) 0 ∗ cred (tallyAt (recvCell t c) () (N t)) ∗ atPos ER (recvCell t c) 0 ∅ 0) : sProp 𝕄) := by
  rw [bigSep_sep', bigSep_sep']

theorem hopen (c : Dev nD) : iprop(Tk m c ∗ Pipeline.ownSems0 osem c ∗ levAts L lv) ⊢ (|={Set.univ}=> Xk m c : sProp 𝕄) := by
  rw [ownSems_eq]
  unfold Tk Xk Tok Ghost
  iintro ⟨⟨⟨%K, #HI, Hrb, Hab, ⟨Hos, Hor⟩, Htb, Hts, Htr⟩, Hcb, Hcr⟩, ⟨Hl, Hss, Hsr⟩, Hlev⟩
  imod (open_all m K (fun t => sendCell t c) (fun t => Inv_send (Xm m) K t c)) $$ [Hos Hss] with ⟨Has, Hrs⟩
  · isplitr; · iexact HI
    isplitl [Hos]; · iexact Hos
    iexact Hss
  imod (open_all m K (fun t => recvCell t c) (fun t => Inv_recv (Xm m) K t c)) $$ [Hor Hsr] with ⟨Har, Hrr⟩
  · isplitr; · iexact HI
    isplitl [Hor]; · iexact Hor
    iexact Hsr
  imodintro
  isplitl [Hlev]
  · iexists K; unfold Ctx
    isplitr; · iexact HI
    iexact Hlev
  isplitr [Hl]
  · isplitl [Htb Hrb]
    · iapply (sep_in (Finset.univ : Finset (Fin 3)) (fun u => (dutyTok ER (barCell (xr (pm u) c)) 0 u : sProp 𝕄)) (fun u => (reached ER (barCell (xr (pm u) c)) 0 : sProp 𝕄)))
      isplitl [Htb]; · iexact Htb
      iexact Hrb
    isplitl [Hcb Hab]
    · isplitl [Hcb]; · iexact Hcb
      iexact Hab
    isplitl [Hts Htr Hrs Has]
    · iapply (outPre_in c)
      isplitl [Hts]; · iexact Hts
      isplitl [Htr]; · iexact Htr
      isplitl [Hrs]; · iexact Hrs
      iexact Has
    iapply (inPre_in c)
    isplitl [Hrr]; · iexact Hrr
    isplitl [Hcr]; · iexact Hcr
    iexact Har
  iexact Hl

/-! ## Entering and leaving the body -/

theorem hin (c : Dev nD) : iprop(Pipeline.scopedRest (Pipeline.pin (pcfgs (F := F)) adm 0).spec c ∗ (∃ r, prngReg c r) ∗ StableHlo.held (c.tc : Thread nD τ) hbufs (V₁ m c) ∗ Xk m c)
    ⊢ (pdats m 0 c).Φ 0 := by
  rw [show (pdats m 0 c).Φ 0 = PhiA m c from rfl, hbufs_eq]
  rw [show (Pipeline.scopedRest (Pipeline.pin (pcfgs (F := F)) adm 0).spec c : sProp 𝕄) = Scr c from scoped_eq c]
  unfold PhiA
  iintro ⟨Hs, Hp, ⟨Hw, Ho⟩, HX⟩
  isplitl [HX]; · iexact HX
  isplitl [Hs]; · iexact Hs
  isplitl [Hp]; · iexact Hp
  isplitl [Hw]; · iexact Hw
  iexists (V₁ m c main_v3); iexact Ho

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) hbufs (V₂ m c) ∗ Pipeline.ownSems0 osem c ∗ Yk c) := by
  rw [show (pdats m 0 c).Φ (Fin.last _) = PhiB m c from rfl, hbufs_eq, ownSems_eq, V₂_out, V₂_of_ne m c (by decide : Proc.devRef .tc main_arg1 ≠ Proc.devRef .tc main_v3)]
  rw [show (Pipeline.scopedRest (Pipeline.pin (pcfgs (F := F)) adm 0).spec c : sProp 𝕄) = Scr c from scoped_eq c]
  unfold PhiB
  iintro ⟨HY, Hss, Hs, Hp, Hw, Ho⟩
  isplitl [Hs]; · iexact Hs
  isplitl [Hp]; · iexact Hp
  isplitl [Hw Ho]
  · isplitl [Hw]; · iexact Hw
    iexact Ho
  isplitl [Hss]; · iexact Hss
  iexact HY

/-! ## The levels -/

theorem O₀_pos {c : Dev nD} {g : GSem nD τ sig} {u : Unit} (h : 0 < O₀ c g u) :
    (∃ t, g = recvCell t (peer t c)) ∨ ∃ v, g = barCell (xr (pm v) c) := by
  unfold O₀ debtB debt at h
  rw [Pi.add_apply, Finsupp.add_apply, Finset.sum_apply, Finsupp.finset_sum_apply, Finset.sum_apply, Finsupp.finset_sum_apply] at h
  rcases Nat.add_pos_iff_pos_or_pos.mp h with h | h
  all_goals
    obtain ⟨t, ht, hp⟩ := Finset.exists_ne_zero_of_sum_ne_zero h.ne'
    rw [tallyAt_apply] at hp
    split at hp
    · next hg => first | exact .inl ⟨t, hg.1⟩ | exact .inr ⟨t, hg.1⟩
    · exact absurd rfl hp

theorem lvl_recv_pos : ∀ t : Fin 27, 0 < lvl (.dma (recvS t)) := by decide

theorem cutD (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · rcases O₀_pos h with ⟨v, rfl⟩ | ⟨v, rfl⟩
    · exact ⟨by rw [L_tc]; exact Finset.mem_singleton_self _, lvl_recv_pos v⟩
    · exact ⟨by rw [L_tc]; exact Finset.mem_singleton_self _, Nat.one_pos⟩
  · exact absurd h (Nat.lt_irrefl 0)

theorem stage_lvl : ∀ (w : Fin cfg0.W) (s : Fin (cfg0.win w).nbuf), lvl (.dma ((cfg0.win w).sem s)) ≤ 0 := by decide

theorem levels_cut (m : (ℓ : Loc nD τ sig) → Buf (Elt F) ℓ) : Pipeline.LevelCutOwed (pcfgs (F := F)) adm (pdats m) () L lv 0 (fun _ => 0) where
  hι c w s := by rw [L_tc]; exact Finset.mem_singleton_self _
  hιb c w s := stage_lvl w s
  hD c t g i h := cutD m c t g i h

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-! ## The segments -/

theorem arr_ne (w : Fin cfg0.W) : (Proc.devRef .tc (Pipeline.arrRef spec0 w) : DevRef τ sig) ≠ Proc.devRef .tc main_v3 := by revert w; decide

theorem in_only : ∀ w : Fin cfg0.W, (cfg0.win w).isOut = false := by decide
theorem share_full (c : Dev nD) (w : Fin cfg0.W) : (dat m c).share w = fullShare := by unfold Dat.share; split <;> rfl

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_ok
    hbufs (bufs \ Pipeline.arrRefs (τ := τ) spec0) hbufs_sub kitP rfl (fun c => (body m c).loose)
    (fun _ => 0) O₀ (fun c => (owed_first m c).trans (zero_add _).symm) (owed_last m) (fun _ => rfl) (share_full m)
    (V₁ m) (V₂ m)
    (fun c b hb => V₂_of_ne m c fun e => (Finset.mem_sdiff.1 hb).2 (by rw [e]; decide))
    (Tk m) Yk (Xk m) Yk (hopen m) (hin m) (hout m)
    (fun c => by iintro H; imodintro; iexact H)
    (fun _ => 0) (levels_cut m)
    (fun _ => iprop(emp))
    (fun _ _ => rfl)
    (fun c w => ((dat m c).arrAt_in w (in_only w) _).trans (V₂_of_ne m c (arr_ne w)).symm)

/-- What rides along the host operations. -/
def R (c : Dev nD) : sProp 𝕄 := iprop(Tk m c ∗ (∃ r, prngReg c r) ∗ ∃ W, owes (c : Thread nD τ) (O₀ c) W)

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) (bufs \ Pipeline.arrRefs (τ := τ) spec0) (V₁ m c) ∗ emp) ∗ Tk m c ∗ ∃ Wd, owes (c : Thread nD τ) (0 + O₀ c) Wd)
  rw [StableHlo.held_sub_split (c.tc : Thread nD τ) arrs_sub, zero_add]
  unfold R
  iintro ⟨⟨Ha, Hh⟩, HK, Hp, HO⟩
  isplitl [Ha]; · iexact Ha
  isplitl [Hp]; · iexact Hp
  isplitl [Hh]
  · isplitl [Hh]; · iexact Hh
    iempintro
  isplitl [HK]; · iexact HK
  iexact HO

theorem reg_post (c : Dev nD) : (reg m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) (bufs \ Pipeline.arrRefs (τ := τ) spec0) (V₂ m c) ∗ emp) ∗ Yk c ∗ ∃ Wd, owes (c : Thread nD τ) (0 : CellTallies nD τ sig Unit) Wd) ⊢ _
  rw [StableHlo.held_sub_split (c.tc : Thread nD τ) arrs_sub]
  unfold Yk
  iintro ⟨Ha, -, ⟨Hh, -⟩, Hb, HO⟩
  isplitr [HO]
  · isplitl [Ha Hh]
    · isplitl [Ha]; · iexact Ha
      iexact Hh
    iexact Hb
  iexact HO

theorem ops_sub : ∀ op ∈ (hostOps0 : List (HloOp τ sig (Elt F))), op.bufs ⊆ bufs := by
  intro op h
  fin_cases h
  · show ({_, _, _} : Finset (DevRef τ sig)) ⊆ bufs; decide
  · show ({_, _} : Finset (DevRef τ sig)) ⊆ bufs; decide

def seg0 : Pipeline.HostSeg (Ix := Unit) (Name := ℕ) (U := UU) (Lvl := ℕ) (pcfgs (F := F)) defs₀ 𝒱₀ L lv :=
  Pipeline.HostSeg.ofOps (pcfgs (F := F)) defs₀ 𝒱₀ L lv bufs hostOps0 ops_sub (List.forall_iff_forall_mem.mp hostOps0_fresh) (V₀ m) (R m)

/-- @main as the list. -/
def segs : List (Pipeline.Seg (pcfgs (F := F)) adm (pdats m) () defs₀ 𝒱₀ L lv) := [.host (seg0 m), .region (reg m)]

theorem main_eq (c : Dev nD) : main (F := F) c = Pipeline.Seg.run (segs m) :=
  main_segs adm (pdats m) () 𝒱₀ L lv (seg0 m) (reg m) rfl c

end Cert.Ring

end
-- ==== Proof.Launch.lean ====
/-
The launch: every cell made, every token and credit dealt to its device; then the run of the program.
-/
module

public import proofs.«01_k».proof.Proof.Seg

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight Flight_mono wp_dmaLocal wp_waitLocalO)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens of the launch -/

abbrev OwnIx : Type := Fin 27 ⊕ Fin 27
abbrev ownS : OwnIx → SemLoc sig := fun | .inl t => .dma (sendS t) | .inr t => .dma (recvS t)
theorem ownS_inj : Function.Injective ownS := by decide +kernel
theorem ownS_ne_bar : ∀ k, ownS k ≠ .reg barS := by decide

def barEmb : Dev nD ↪ GSem nD τ sig := ⟨fun c => barCell c, fun _ _ h => congrArg (fun g : GSem nD τ sig => g.1.1) h⟩
def ownEmb : Dev nD × OwnIx ↪ GSem nD τ sig :=
  ⟨fun p => ((p.1 : Thread nD τ), ownS p.2), fun _ _ h => Prod.ext (congrArg (fun g : GSem nD τ sig => g.1.1) h) (ownS_inj (congrArg Prod.snd h))⟩

/-- The barrier cells, live from launch; the send and receive cells, opened when the kernel is entered. -/
abbrev barCells : Finset (GSem nD τ sig) := Finset.univ.map barEmb
abbrev ownCells : Finset (GSem nD τ sig) := Finset.univ.map ownEmb

theorem cells_apart : Disjoint (barCells : Finset (GSem nD τ sig)) ownCells := by
  rw [Finset.disjoint_left]
  intro g h h'
  obtain ⟨c, -, rfl⟩ := Finset.mem_map.mp h
  obtain ⟨p, -, e⟩ := Finset.mem_map.mp h'
  exact ownS_ne_bar p.2 (congrArg Prod.snd e)

/-- The duties of one device's cells: three of its barrier cell, one of every other. -/
abbrev DutyIx : Type := Fin 3 ⊕ OwnIx
abbrev dutyS : DutyIx → SemLoc sig × Fin 3 := fun | .inl u => (.reg barS, u) | .inr k => (ownS k, 0)
theorem dutyS_inj : Function.Injective dutyS := by
  rintro (u | k) (u' | k') h
  · exact congrArg Sum.inl (congrArg Prod.snd h)
  · exact absurd (congrArg Prod.fst h).symm (ownS_ne_bar k')
  · exact absurd (congrArg Prod.fst h) (ownS_ne_bar k)
  · exact congrArg Sum.inr (ownS_inj (congrArg Prod.fst h))

def dutyToks : Finset (GSem nD τ sig × ℕ × Fin 3) :=
  Finset.univ.map ⟨fun p : Dev nD × DutyIx => (((p.1 : Thread nD τ), (dutyS p.2).1), 0, (dutyS p.2).2), fun _ _ h =>
    Prod.ext (congrArg (fun t : GSem nD τ sig × ℕ × Fin 3 => t.1.1.1) h)
      (dutyS_inj (Prod.ext (congrArg (fun t : GSem nD τ sig × ℕ × Fin 3 => t.1.2) h) (congrArg (fun t : GSem nD τ sig × ℕ × Fin 3 => t.2.2) h)))⟩

/-- The launch element: the pipeline library's, the protocol's, and no counter. -/
def u₀ : UU :=
  (initOf (Pipeline.cells (Pipeline.pin (pcfgs (F := F)) adm) cellOf_inj) (Pipeline.launchToks (Pipeline.pin (pcfgs (F := F)) adm) cellOf_inj),
    (launchOf barCells ownCells dutyToks, 1))

/-- The protocol's part of it, kept whole on device 0 until it is dealt. -/
def G (c : Dev nD) : sProp 𝕄 := if c = 0 then BI.own (ER (launchOf barCells ownCells dutyToks)) else iprop(emp)

theorem G_all : bigSep Finset.univ (G (F := F)) = BI.own (ER (launchOf barCells ownCells dutyToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## The records -/

theorem own_split (Φ : GSem nD τ sig → sProp 𝕄) : bigSep ownCells Φ
    = bigSep Finset.univ fun c : Dev nD => iprop((bigSep Finset.univ fun t : Fin 27 => Φ (sendCell t c)) ∗ bigSep Finset.univ fun t : Fin 27 => Φ (recvCell t c)) := by
  rw [BI.bigSep_map, BI.bigSep_univ_prod]
  exact BI.bigSep_congr fun c _ => by rw [BI.bigSep_univ_sum]; rfl
theorem bar_split (Φ : GSem nD τ sig → sProp 𝕄) : bigSep barCells Φ = bigSep Finset.univ fun c : Dev nD => Φ (barCell c) :=
  BI.bigSep_map barEmb

/-- Every device's knowledge: all the invariants, and every barrier cell open. -/
def records (κ : GSem nD τ sig → ℕ) : sProp 𝕄 :=
  iprop(Inv (Xm m) κ ∗ bigSep Finset.univ fun c : Dev nD => reached ER (barCell c) 0)
instance records_persistent (κ : GSem nD τ sig → ℕ) : BI.Persistent (records m κ) := by unfold records; infer_instance

theorem inv_all (κ : GSem nD τ sig → ℕ) : (bigSep (barCells ∪ ownCells) fun g => (cellInv ER (Rd (Xm m)) (κ g) g : sProp 𝕄)) ⊢ Inv (Xm m) κ := by
  unfold Inv
  rw [BI.bigSep_union cells_apart, bar_split, own_split, bigSep_sep',
    BI.bigSep_univ_prod (fun p : Dev nD × Fin 27 => (cellInv ER (Rd (Xm m)) (κ (sendCell p.2 p.1)) (sendCell p.2 p.1) : sProp 𝕄)),
    BI.bigSep_univ_prod (fun p : Dev nD × Fin 27 => (cellInv ER (Rd (Xm m)) (κ (recvCell p.2 p.1)) (recvCell p.2 p.1) : sProp 𝕄))]
  exact BI.Entails.refl _

theorem reached_dirs (c : Dev nD) : (bigSep Finset.univ fun c : Dev nD => (reached ER (barCell c) 0 : sProp 𝕄))
    ⊢ bigSep Finset.univ fun u : Fin 3 => reached ER (barCell (xr (pm u) c)) 0 := by
  rw [bigSep_fin_three]
  have e (d : Dev nD) : (bigSep Finset.univ fun c : Dev nD => (reached ER (barCell c) 0 : sProp 𝕄)) ⊢ reached ER (barCell d) 0 := BI.bigSep_elim (Finset.mem_univ d)
  iintro #H
  isplitr; · iapply (e _); iexact H
  isplitr; · iapply (e _); iexact H
  iapply (e _); iexact H

/-! ## The tokens, dealt to the devices that pay -/

def toks (c : Dev nD) : sProp 𝕄 :=
  iprop((bigSep Finset.univ fun u : Fin 3 => dutyTok ER (barCell c) 0 u)
    ∗ (bigSep Finset.univ fun t : Fin 27 => dutyTok ER (sendCell t c) 0 0) ∗ bigSep Finset.univ fun t : Fin 27 => dutyTok ER (recvCell t c) 0 0)
/-- What device `c` pays with. -/
def paid (c : Dev nD) : sProp 𝕄 :=
  iprop((bigSep Finset.univ fun u : Fin 3 => dutyTok ER (barCell (xr (pm u) c)) 0 u)
    ∗ (bigSep Finset.univ fun t : Fin 27 => dutyTok ER (sendCell t c) 0 0) ∗ bigSep Finset.univ fun t : Fin 27 => dutyTok ER (recvCell t (peer t c)) 0 0)

theorem toks_eq : bigSep dutyToks (fun x => (dutyTok ER x.1 x.2.1 x.2.2 : sProp 𝕄)) = bigSep Finset.univ fun c : Dev nD => toks c := by
  unfold dutyToks; rw [BI.bigSep_map, BI.bigSep_univ_prod]
  exact BI.bigSep_congr fun c _ => by unfold toks; rw [BI.bigSep_univ_sum, BI.bigSep_univ_sum]; rfl

def turn (k : Fin 8) : Dev nD ≃ Dev nD := ⟨xr k, xr k, xr_xr k, xr_xr k⟩

/-- A family over the devices, each index `i` of it taken at the device `k i` away. -/
theorem around {I : Type} [Fintype I] (k : I → Fin 8) (Φ : I → Dev nD → sProp 𝕄) :
    (bigSep Finset.univ fun c : Dev nD => bigSep Finset.univ fun i : I => Φ i c) = bigSep Finset.univ fun c : Dev nD => bigSep Finset.univ fun i : I => Φ i (xr (k i) c) := by
  rw [BI.bigSep_univ_comm]
  rw [BI.bigSep_univ_comm (fun (c : Dev nD) (i : I) => Φ i (xr (k i) c))]
  exact BI.bigSep_congr fun i _ => BI.bigSep_univ_equiv (turn (k i)) (Φ i)

theorem toks_around : (bigSep Finset.univ fun c : Dev nD => (toks c : sProp 𝕄)) = bigSep Finset.univ fun c : Dev nD => paid c := by
  unfold toks paid
  rw [bigSep_sep', bigSep_sep', bigSep_sep', bigSep_sep',
    around pm (fun (u : Fin 3) (c : Dev nD) => (dutyTok ER (barCell c) 0 u : sProp 𝕄)),
    around (fun t : Fin 27 => pm (dir t)) (fun (t : Fin 27) (c : Dev nD) => (dutyTok ER (recvCell t c) 0 0 : sProp 𝕄))]
  rfl

/-! ## The launch credit -/

theorem recvS_inj : ∀ t t' : Fin 27, recvS t = recvS t' → t = t' := by decide
theorem recv_ne_bar (t : Fin 27) : (.dma (recvS t) : SemLoc sig) ≠ .reg barS := by simp

theorem owed_bar (d c : Dev nD) : O₀ d (barCell c) () = ∑ u : Fin 3, if c = xr (pm u) d then 1 else 0 := by
  unfold O₀ debtB debt
  rw [Pi.add_apply, Finsupp.add_apply, Finset.sum_apply, Finsupp.finset_sum_apply, Finset.sum_apply, Finsupp.finset_sum_apply,
    Finset.sum_eq_zero (fun t _ => by rw [tallyAt_ne_cell (fun h => recv_ne_bar t (congrArg Prod.snd h).symm)]; rfl), zero_add,
    show (Finset.univ.filter fun u : Fin 3 => 0 ≤ u.val) = Finset.univ from by decide]
  refine Finset.sum_congr rfl fun u _ => ?_
  rw [tallyAt_apply]
  by_cases h : c = xr (pm u) d
  · rw [if_pos h, if_pos ⟨by rw [h], rfl⟩]
  · rw [if_neg h, if_neg (fun e => h (congrArg (fun g : GSem nD τ sig => g.1.1) e.1))]

theorem owed_recv (t : Fin 27) (d c : Dev nD) : O₀ d (recvCell t c) () = if d = peer t c then N t else 0 := by
  unfold O₀ debtB debt
  rw [Pi.add_apply, Finsupp.add_apply, Finset.sum_apply, Finsupp.finset_sum_apply, Finset.sum_apply, Finsupp.finset_sum_apply,
    Finset.sum_eq_zero (s := Finset.univ.filter fun u : Fin 3 => 0 ≤ u.val) (fun u _ => by rw [tallyAt_ne_cell (fun h => recv_ne_bar t (congrArg Prod.snd h))]; rfl), add_zero,
    Finset.filter_true_of_mem (fun t _ => Nat.zero_le _), Finset.sum_eq_single t
      (fun t' _ h => by
        rw [tallyAt_apply, if_neg]
        exact fun e => h (recvS_inj _ _ (SemLoc.dma.inj (congrArg Prod.snd e.1)).symm))
      (fun h => absurd (Finset.mem_univ t) h), tallyAt_apply]
  by_cases h : d = peer t c
  · subst h; rw [peer_peer, if_pos ⟨rfl, rfl⟩, if_pos rfl]
  · rw [if_neg h, if_neg (fun e => h (by rw [← peer_peer t d]; exact congrArg (peer t) (congrArg (fun g : GSem nD τ sig => g.1.1) e.1).symm))]

theorem three_owe (c : Dev nD) : (∑ d : Dev nD, ∑ u : Fin 3, if c = xr (pm u) d then 1 else 0) = 3 := by revert c; decide

theorem launch_bar (c : Dev nD) : tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, three_owe]
theorem launch_recv (t : Fin 27) (c : Dev nD) :
    tallyOn (recvCell t c) (launchCredit (Pipeline.owing O₀) 0 (recvCell t c)) = (tallyAt (recvCell t c) () (N t) : CellTallies nD τ sig Unit) := by
  unfold tallyAt; refine congrArg _ (Finsupp.ext fun u => ?_); cases u
  rw [Pipeline.launchCredit_owing, Finsupp.single_eq_same, Finset.sum_congr rfl fun d _ => owed_recv t d c, Finset.sum_ite_eq' Finset.univ (peer t c) fun _ => N t,
    if_pos (Finset.mem_univ _)]

def recvEmb : Fin 27 ↪ SemLoc sig := ⟨fun t => .dma (recvS t), fun t t' h => recvS_inj t t' (SemLoc.dma.inj h)⟩

theorem creds (c : Dev nD) : (Pipeline.launchCred O₀ c : sProp 𝕄)
    ⊢ iprop(cred (tallyAt (barCell c) () 3) ∗ bigSep Finset.univ fun t : Fin 27 => cred (tallyAt (recvCell t c) () (N t))) := by
  unfold Pipeline.launchCred
  rw [bigSep_univ_at _ (SemLoc.reg barS), launch_bar]
  refine sep_mono_right ?_
  have hs : Finset.univ.map recvEmb ⊆ Finset.univ.erase (SemLoc.reg barS : SemLoc sig) := fun sm h => by
    obtain ⟨t, -, rfl⟩ := Finset.mem_map.mp h
    exact Finset.mem_erase.mpr ⟨recv_ne_bar t, Finset.mem_univ _⟩
  refine (BI.bigSep_subset hs).trans ?_
  rw [BI.bigSep_map]
  exact Entails.of_eq (BI.bigSep_congr fun t _ => by rw [← launch_recv]; rfl)

/-! ## The run -/

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

/-- A device's own part of the protocol's launch state. -/
def linear (c : Dev nD) : sProp 𝕄 :=
  iprop(atPos ER (barCell c) 0 ∅ 0 ∗ ((bigSep Finset.univ fun t : Fin 27 => openTok ER (sendCell t c)) ∗ bigSep Finset.univ fun t : Fin 27 => openTok ER (recvCell t c)) ∗ paid c)
/-- What else a device is launched with. -/
def bundle (c : Dev nD) : sProp 𝕄 :=
  iprop(StableHlo.held (c : Thread nD τ) bufs (V₀ m c) ∗ (cred (tallyAt (barCell c) () 3) ∗ bigSep Finset.univ fun t : Fin 27 => cred (tallyAt (recvCell t c) () (N t)))
    ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold records linear paid bundle T₀ R Tk Tok
  iintro ⟨⟨#HI, #HR⟩, ⟨Ha, Ho, Ht⟩, Hh, ⟨H3, HN⟩, HO, Hp⟩
  isplitl [Hh]; · iexact Hh
  isplitr [HO Hp]
  · isplitl [Ha Ho Ht]
    · iexists κ
      isplitr; · iexact HI
      isplitr; · iapply (reached_dirs (F := F) c); iexact HR
      isplitl [Ha]; · iexact Ha
      isplitl [Ho]; · iexact Ho
      iexact Ht
    isplitl [H3]; · iexact H3
    iexact HN
  isplitl [Hp]; · iexact Hp
  iexists ∅; iexact HO

theorem unscopedSems0_eq (c : Dev nD) : (unscopedSems0 c : sProp 𝕄) = semVal (barCell c) 0 := by
  unfold unscopedSems0
  rw [show (Finset.univ.filter fun sm : SemLoc sig => ¬sm.isScoped .tc = true) = {SemLoc.reg barS} from by decide, BI.bigSep_singleton]

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c.tc : Thread nD τ).loc b)) = StableHlo.held (c : Thread nD τ) bufs (V₀ m c) from unscopedBufs_held c (V₀ m c),
      unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus]; · iexact Hus
    iexact HG
  have hcores : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) := BI.bigSep_mono fun c _ => hcore c
  iintro ⟨H, -⟩
  ihave H' := hcores $$ H
  ihave H2 := (sep_out _ _ _) $$ H'; icases H2 with ⟨HB, H3⟩
  ihave H4 := (sep_out _ _ _) $$ H3; icases H4 with ⟨Hv, HG⟩
  ihave Hu := (Entails.of_eq (G_all (F := F))) $$ HG
  imod (Rounds.fund_launch ER (Rd (Xm m)) cells_apart (fun g _ h => h) dutyToks) $$ [Hv Hu] with ⟨%κ, -, #Hinv, #Hr, Hat, Hopen, Htok⟩
  · isplitl [Hv]
    · iapply (Entails.of_eq (bar_split (F := F) fun g => semVal g 0).symm) $$ Hv
    · iexact Hu
  imodintro
  iapply (bigSep_with_persistent (R := records m κ) (Φ := fun c => iprop(linear c ∗ bundle m c)) fun c _ => T₀_intro m κ c)
  isplitr
  · unfold records
    isplitr; · iapply (inv_all m κ); iexact Hinv
    iapply (Entails.of_eq (bar_split (F := F) fun g => reached ER g 0)) $$ Hr
  iapply (sep_in _ _ _)
  isplitr [HB]
  · unfold linear
    iapply (sep_in _ _ _); isplitl [Hat]; · iapply (Entails.of_eq (bar_split (F := F) fun g => atPos ER g 0 ∅ 0)) $$ Hat
    iapply (sep_in _ _ _); isplitl [Hopen]; · iapply (Entails.of_eq (own_split (F := F) fun g => openTok ER g)) $$ Hopen
    iapply (Entails.of_eq ((toks_eq (F := F)).trans toks_around)) $$ Htok
  · iexact HB

theorem bufs_eq (c : Dev nD) (W : Valuation τ sig (Elt F)) : (StableHlo.held (c : Thread nD τ) bufs W : sProp 𝕄)
    = iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_arg3) ↦{fullShare} W main_arg3)
      ∗ (((c : Thread nD τ).loc main_v3) ↦{fullShare} W main_v3) ∗ (((c : Thread nD τ).loc main_v1) ↦{fullShare} W main_v1)
      ∗ (((c : Thread nD τ).loc main_v2) ↦{fullShare} W main_v2)) := by
  unfold StableHlo.held
  rw [bigSep_eq_bigSepL_of_eq [Proc.devRef .tc main_arg0, Proc.devRef .tc main_arg1, Proc.devRef .tc main_arg2, Proc.devRef .tc main_arg3, Proc.devRef .tc main_v3,
    Proc.devRef .tc main_v1, Proc.devRef .tc main_v2] (by decide) (by decide)]
  rfl

theorem unscoped_sem : ∀ sm : SemLoc sig, sm.isScoped .tc = false → sm = .reg barS := by decide

set_option backward.isDefEq.respectTransparency.types false in
/-- From any memory with its counters at zero, every run of @main ends, the arguments as they were, every result at `res`,
    every counter at zero. -/
theorem run_main : θ_run defs (onTc (τ := τ) (main (F := F))) ⟨m, fun _ => 0, ρ⟩
    (fun r => (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.mem ((c.tc : Thread nD τ).loc main_v3) = res m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      ihave H := (own_pair_emb _ _ _) $$ HX
      icases H with ⟨HX, -⟩
      imodintro
      isplitl [HP]; · iexact HP
      iapply (Entails.of_eq (G_all (F := F)).symm) $$ HX)
    (T₀ := T₀ m) (Tₙ := Tₙ m)
    (hch := ⟨fun c => .rfl, fun c => reg_pre m c, fun c => reg_post m c⟩)
    (hinit := init m ρ)
    (QY := fun c s => (s.mem ((c.tc : Thread nD τ).loc main_arg0) = V₂ m c main_arg0 ∧ s.mem ((c.tc : Thread nD τ).loc main_arg1) = V₂ m c main_arg1
      ∧ s.mem ((c.tc : Thread nD τ).loc main_arg2) = V₂ m c main_arg2 ∧ s.mem ((c.tc : Thread nD τ).loc main_arg3) = V₂ m c main_arg3
      ∧ s.mem ((c.tc : Thread nD τ).loc main_v3) = V₂ m c main_v3)
      ∧ s.sem (barCell c) = 0)
    (hfin := fun c s' => by
      dsimp only [Tₙ]; rw [bufs_eq]
      iintro ⟨⟨⟨H0, H1, H2, H3, H4, -⟩, Hb0⟩, HSI⟩
      icombine HSI H0 gives %h0
      icombine HSI H1 gives %h1
      icombine HSI H2 gives %h2
      icombine HSI H3 gives %h3
      icombine HSI H4 gives %h4
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4⟩, by simpa using hb⟩
      iexact HSI)
    (hQ := fun s h hs => ⟨fun c => by
        obtain ⟨⟨h0, h1, h2, h3, h4⟩, -⟩ := h c
        rw [V₂_of_ne m c (by decide)] at h0 h1 h2 h3
        rw [V₂_out] at h4
        exact ⟨⟨h0.trans (V_main_arg0 m c), h1.trans (V_main_arg1 m c), h2.trans (V_main_arg2 m c), h3.trans (V_main_arg3 m c)⟩, h4⟩,
      sem_eq_zero hs fun c sm hsm => by
        obtain rfl := unscoped_sem sm hsm
        exact (h c).2⟩)

end Cert.Ring

end
-- ==== Proof.Value.lean ====
/-
The value over the reals: a device's result is its block of the columns of the product of the whole operands, scaled.
-/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.ValueIdx
public import Idealize.ShloMosaic.Lib.Layout

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight Flight_mono wp_dmaLocal wp_waitLocalO)

/-! ## A device's result, over the reals -/

/-- The product of a block of rows with the second operand, scaled: one element. -/
theorem mm512_at (s : Elt Ideal .f32) (a : FVec Ideal S512x4096 .fp8e5m2) (w : FVec Ideal S4096x1024 .fp8e5m2) (r : Fin 512) (q : Fin 1024) :
    mm512 s a w (ix2 r q) = (∑ k : Fin 4096, a (ix2 r k) * w (ix2 k q)) * (s : EReal) := by
  have h := Ideal.matmul_plain_apply (M := 512) (K := 4096) (N := 1024) none a w (constant S512x1024 .f32 0x00000000#32) r q
  show (FloatOps.matmul (DotDims.plain 512 4096 1024) none a w (constant S512x1024 .f32 0x00000000#32) (ix2 r q) : EReal) * s = _
  rw [h]
  show (Ideal.ofBits .f32 0x00000000#32 + _) * s = _
  rw [Ideal.ofBits_zero_f32, zero_add]
theorem mm192_at (s : Elt Ideal .f32) (a : FVec Ideal S192x4096 .fp8e5m2) (w : FVec Ideal S4096x1024 .fp8e5m2) (r : Fin 192) (q : Fin 1024) :
    mm192 s a w (ix2 r q) = (∑ k : Fin 4096, a (ix2 r k) * w (ix2 k q)) * (s : EReal) := by
  have h := Ideal.matmul_plain_apply (M := 192) (K := 4096) (N := 1024) none a w (constant S192x1024 .f32 0x00000000#32) r q
  show (FloatOps.matmul (DotDims.plain 192 4096 1024) none a w (constant S192x1024 .f32 0x00000000#32) (ix2 r q) : EReal) * s = _
  rw [h]
  show (Ideal.ofBits .f32 0x00000000#32 + _) * s = _
  rw [Ideal.ofBits_zero_f32, zero_add]
theorem mm128_at (s : Elt Ideal .f32) (a : FVec Ideal S128x4096 .fp8e5m2) (w : FVec Ideal S4096x1024 .fp8e5m2) (r : Fin 128) (q : Fin 1024) :
    mm128 s a w (ix2 r q) = (∑ k : Fin 4096, a (ix2 r k) * w (ix2 k q)) * (s : EReal) := by
  have h := Ideal.matmul_plain_apply (M := 128) (K := 4096) (N := 1024) none a w (constant S128x1024 .f32 0x00000000#32) r q
  show (FloatOps.matmul (DotDims.plain 128 4096 1024) none a w (constant S128x1024 .f32 0x00000000#32) (ix2 r q) : EReal) * s = _
  rw [h]
  show (Ideal.ofBits .f32 0x00000000#32 + _) * s = _
  rw [Ideal.ofBits_zero_f32, zero_add]

section
variable (X : Dev nD → S512x4096.Idx → Elt Ideal .f32) (Wt : Dev nD → S4096x1024.Idx → Elt Ideal .f32) (sc : Dev nD → Elt Ideal .f32)

/-- Element (`r`, `q`) of block `e` of device `c`'s result: row `r` of device `e`'s rows times the own column `q`, scaled.
    The block computed in three runs of rows says the same. -/
theorem blkF_at (c e : Dev nD) (r : Fin 512) (q : Fin 1024) :
    blkF X Wt sc c e r q = (∑ k : Fin 4096, (X e (ix2 r k) : EReal) * Wt c (ix2 k q)) * sc c := by
  have hr := r.isLt
  unfold blkF
  split_ifs with h1 h2 h3
  · rw [mm192_at]
    refine congrArg (· * (sc c : EReal)) (Finset.sum_congr rfl fun k _ => ?_)
    rw [rowsF_at 192 0 _ _ (by show 0 + r.val < 512; omega)]
    show (X e (ix2 (⟨0 + r.val, _⟩ : Fin 512) k) : EReal) * Wt c (ix2 k q) = _
    rw [show (⟨0 + r.val, by omega⟩ : Fin 512) = r from Fin.ext (by show 0 + r.val = r.val; omega)]
  · rw [mm192_at]
    refine congrArg (· * (sc c : EReal)) (Finset.sum_congr rfl fun k _ => ?_)
    rw [rowsF_at 192 192 _ _ (by show 192 + (r.val - 192) < 512; omega)]
    show (X e (ix2 (⟨192 + (r.val - 192), _⟩ : Fin 512) k) : EReal) * Wt c (ix2 k q) = _
    rw [show (⟨192 + (r.val - 192), by omega⟩ : Fin 512) = r from Fin.ext (by show 192 + (r.val - 192) = r.val; omega)]
  · rw [mm128_at]
    refine congrArg (· * (sc c : EReal)) (Finset.sum_congr rfl fun k _ => ?_)
    rw [rowsF_at 128 384 _ _ (by show 384 + (r.val - 384) < 512; omega)]
    show (X e (ix2 (⟨384 + (r.val - 384), _⟩ : Fin 512) k) : EReal) * Wt c (ix2 k q) = _
    rw [show (⟨384 + (r.val - 384), by omega⟩ : Fin 512) = r from Fin.ext (by show 384 + (r.val - 384) = r.val; omega)]
  · rw [mm512_at]
    rfl
end

/-! ## What the kernel finds -/

variable (m : (ℓ : Loc nD τ sig) → Buf (Elt Ideal) ℓ)

theorem Xm_eq (c : Dev nD) : Xm m c = m ((c.tc : Thread nD τ).loc main_arg0) := V_main_arg0 m c
theorem Wm_eq (c : Dev nD) : Wm m c = m ((c.tc : Thread nD τ).loc main_arg1) := V_main_arg1 m c

/-- The scale: the product of the two scales. -/
theorem Sm_eq (c : Dev nD) (a b : S1.Idx → EReal) (ha : m ((c.tc : Thread nD τ).loc main_arg2) = a) (hb : m ((c.tc : Thread nD τ).loc main_arg3) = b) :
    Sm m c = a (ix1 0) * b (ix1 0) := by
  have h : (V₁ m c main_v2 : S1x1.Idx → Elt Ideal .f32)
      = shapeCast S1x1 (mulf (F := Ideal) (φ := .f32) (s := S1) (m ((c.tc : Thread nD τ).loc main_arg2)) (m ((c.tc : Thread nD τ).loc main_arg3))) shapeCasts_S1_S1x1 := by
    show StableHlo.after hostOps0 (V₀ m c) (Proc.devRef .tc main_v2) = _
    after_results
    rfl
  unfold Sm
  rw [h, shapeCast_apply _ _ _ (ix1 (0 : Fin 1)) (by decide)]
  subst ha hb
  rfl

/-! ## The reference, one element -/

section
open Cert.ReferenceIdeal (S4096x8192 dot_S4096x4096_S4096x8192_S4096x8192_1_0_0_1_n_n)
open Cert.ReferenceIdeal.Gen (bcast_S1x1_S4096x8192_0_1 bcast_S1_S1x1_1)

/-- The reference's result: the product of the whole operands, scaled. -/
def refF (x : Cert.ReferenceIdeal.S4096x4096.Idx → EReal) (w : Cert.ReferenceIdeal.S4096x8192.Idx → EReal) (a b : Cert.ReferenceIdeal.S1.Idx → EReal) :
    Cert.ReferenceIdeal.S4096x8192.Idx → EReal :=
  mulf (F := Ideal) (φ := .f32) (Host.dotGeneral (F := Ideal) (φ₁ := .f32) (φ₂ := .f32) dot_S4096x4096_S4096x8192_S4096x8192_1_0_0_1_n_n none x w)
    (broadcastInDim S4096x8192 ![0, 1] bcast_S1x1_S4096x8192_0_1 (broadcastInDim Cert.ReferenceIdeal.S1x1 ![1] bcast_S1_S1x1_1 (mulf (F := Ideal) (φ := .f32) a b)))

theorem refF_at (x w a b) (r : Fin 4096) (q : Fin 8192) :
    refF x w a b (ix2 r q) = (∑ k : Fin 4096, x (ix2 r k) * w (ix2 k q)) * (a (ix1 0) * b (ix1 0)) := by
  have h := StackMember.dotGeneral_plain_apply (φ₁ := .f32) (φ₂ := .f32) (none : Option ContractPrecision) x w r q
  show (Host.dotGeneral (F := Ideal) (φ₁ := .f32) (φ₂ := .f32) (DotDims.plain 4096 4096 8192) none x w (ix2 r q) : EReal)
    * broadcastInDim S4096x8192 ![0, 1] bcast_S1x1_S4096x8192_0_1 (broadcastInDim Cert.ReferenceIdeal.S1x1 ![1] bcast_S1_S1x1_1 (mulf (F := Ideal) (φ := .f32) a b)) (ix2 r q) = _
  rw [h, broadcastInDim_apply _ _ _ _ (ix2 (0 : Fin 1) (0 : Fin 1)) (fun d => by match d with | ⟨0, _⟩ => rfl | ⟨1, _⟩ => rfl), broadcastInDim_apply _ _ _ _ (ix1 (0 : Fin 1)) (by decide)]
  rfl
end

/-! ## Device `c`'s result is its block of the reference's -/

theorem res_block (c : Dev nD) (x : Cert.ReferenceIdeal.S4096x4096.Idx → EReal) (w : Cert.ReferenceIdeal.S4096x8192.Idx → EReal) (a b : Cert.ReferenceIdeal.S1.Idx → EReal)
    (hx : ∀ e : Dev nD, Xm m e = Layout.block ⟨2, ![512, 4096]⟩ ⟨2, ![4096, 4096]⟩ 0 8 e x)
    (hw : Wm m c = Layout.block ⟨2, ![4096, 1024]⟩ ⟨2, ![4096, 8192]⟩ 1 8 c w)
    (hs : Sm m c = (a (ix1 0) * b (ix1 0) : EReal)) :
    res m c = Layout.block ⟨2, ![4096, 1024]⟩ ⟨2, ![4096, 8192]⟩ 1 8 c (refF x w a b) := by
  have hc : c.val < 8 := c.isLt
  funext i
  have h0 : (i 0).val < 4096 := (i 0).isLt
  have h1 : (i 1).val < 1024 := (i 1).isLt
  have hi : (by decide : Layout.Tiles ⟨2, ![4096, 1024]⟩ ⟨2, ![4096, 8192]⟩ 1 8).idx c i
      = ix2 (⟨(i 0).val, h0⟩ : Fin 4096) (⟨c.val * 1024 + (i 1).val, by omega⟩ : Fin 8192) := by
    funext d; match d with | ⟨0, _⟩ => rfl | ⟨1, _⟩ => rfl
  rw [Layout.block_apply, hi, refF_at]
  refine (blkF_at (Xm m) (Wm m) (Sm m) c ⟨(i 0).val / 512, Nat.div_lt_of_lt_mul h0⟩ ⟨(i 0).val % 512, Nat.mod_lt _ (by decide)⟩ (i 1)).trans ?_
  rw [hs]
  refine congrArg (· * (a (ix1 0) * b (ix1 0))) (Finset.sum_congr rfl fun k _ => ?_)
  rw [hx, hw, Layout.block_apply, Layout.block_apply]
  have e1 : (by decide : Layout.Tiles ⟨2, ![512, 4096]⟩ ⟨2, ![4096, 4096]⟩ 0 8).idx ⟨(i 0).val / 512, Nat.div_lt_of_lt_mul h0⟩ (ix2 (⟨(i 0).val % 512, Nat.mod_lt _ (by decide)⟩ : Fin 512) k)
      = ix2 (⟨(i 0).val, h0⟩ : Fin 4096) k := by
    funext d
    match d with
    | ⟨0, _⟩ => exact Fin.ext (by show (i 0).val / 512 * 512 + (i 0).val % 512 = (i 0).val; omega)
    | ⟨1, _⟩ => rfl
  have e2 : (by decide : Layout.Tiles ⟨2, ![4096, 1024]⟩ ⟨2, ![4096, 8192]⟩ 1 8).idx c (ix2 k (i 1))
      = ix2 k (⟨c.val * 1024 + (i 1).val, by omega⟩ : Fin 8192) := by
    funext d; match d with | ⟨0, _⟩ => rfl | ⟨1, _⟩ => rfl
  exact congrArg₂ (fun u v => x u * w v) e1 e2

end Cert.Ring

end
-- ==== Proof.lean ====
/- The proof of the certificate's claim: the frame of each program, the rewriting of the kernel (none), and the value of
   the kernel over the reals on the mesh against the reference on one device. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

section
variable {F : FTy → Type} [FloatOps F]

/-- The two kernels are one text, so their body tables are one. -/
theorem defs₀_eq : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => exact rfl

theorem defs_eq : Cert.Kernel.defs (F := F) = Cert.KernelIdeal.defs (F := F) :=
  congrArg (Pipeline.defs (Cert.Kernel.pcfgs (F := F))) defs₀_eq

theorem main_eq : Cert.Kernel.main (F := F) = Cert.KernelIdeal.main (F := F) := by rfl
end

/-- The frame of the kernel at the machine's floats: the run is the one written over any float values. -/
theorem frame_kernel : Cert.quiescent_Kernel := by
  intro m ρ _
  rw [defs_eq, main_eq]
  exact (θ_run Cert.KernelIdeal.defs _ _).mono (fun _ h => ⟨fun c => (h.1 c).1, h.2⟩) (Cert.Ring.run_main (F := Bits) m ρ)

/-- The frame of the kernel over the reals. -/
theorem frame_kernelIdeal : Cert.quiescent_KernelIdeal := fun m ρ _ =>
  (θ_run Cert.KernelIdeal.defs _ _).mono (fun _ h => ⟨fun c => (h.1 c).1, h.2⟩) (Cert.Ring.run_main (F := Ideal) m ρ)

/-- The frame of the reference: no operation writes an argument, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its block of columns of the reference's result. -/
theorem algebraic : Cert.algebraic_KernelIdeal_ReferenceIdeal := by
  intro m ρ m' ρ' _ hag
  refine ⟨Cert.Ring.refF (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3)), ?_, ?_⟩
  · refine (θ_run Cert.KernelIdeal.defs _ _).mono (fun r h c => ⟨(h.1 c).2.trans ?_, (h.1 c).1⟩) (Cert.Ring.run_main (F := Ideal) m ρ)
    exact Cert.Ring.res_block m c _ _ _ _ (fun e => (Cert.Ring.Xm_eq m e).trans (hag e).1) ((Cert.Ring.Wm_eq m c).trans (hag c).2.1)
      (Cert.Ring.Sm_eq m c _ _ (hag c).2.2.1 (hag c).2.2.2)
  · exact (θ_run Cert.ReferenceIdeal.defs _ _).mono (fun r h => h 0) (Cert.ReferenceIdeal.Value.run (F := Ideal) m' ρ')

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
